-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x4096 : Shape := ⟨2, ![16384, 4096]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S16384x4096 .f32) (main_arg1 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 4096#32
  let main_v2 : IVec S4096 32 := broadcastInDim S4096 ![] bcast_S_S4096 main_c_0
  let main_v3 : IVec S4096 1 := cmpi .slt main_arg1 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S16384x4096 : Shape := ⟨2, ![16384, 4096]⟩
abbrev S4096 : Shape := ⟨1, ![4096]⟩
abbrev S4x4096 : Shape := ⟨2, ![4, 4096]⟩
abbrev S2x4096 : Shape := ⟨2, ![2, 4096]⟩
abbrev S_ : Shape := ⟨0, ![]⟩
abbrev S16 : Shape := ⟨1, ![16]⟩
abbrev S1x16 : Shape := ⟨2, ![1, 16]⟩

abbrev nBuf : Table → Nat
  | .hbm => 3
  | .local .scVector .vmem => 9
  | _ => 0

abbrev bufTy : (tb : Table) → Fin (nBuf tb) → BufTy
  | .hbm, ⟨0, _⟩ => ⟨S16384x4096, .f32⟩
  | .hbm, ⟨1, _⟩ => ⟨S4096, .i32⟩
  | .hbm, ⟨2, _⟩ => ⟨S16384x4096, .f32⟩
  | .local .scVector .vmem, ⟨0, _⟩ => ⟨S4096, .i32⟩
  | .local .scVector .vmem, ⟨1, _⟩ => ⟨S4x4096, .f32⟩
  | .local .scVector .vmem, ⟨2, _⟩ => ⟨S4x4096, .f32⟩
  | .local .scVector .vmem, ⟨3, _⟩ => ⟨S4x4096, .f32⟩
  | .local .scVector .vmem, ⟨4, _⟩ => ⟨S4x4096, .f32⟩
  | .local .scVector .vmem, ⟨5, _⟩ => ⟨S2x4096, .f32⟩
  | .local .scVector .vmem, ⟨6, _⟩ => ⟨S2x4096, .f32⟩
  | .local .scVector .vmem, ⟨7, _⟩ => ⟨S2x4096, .f32⟩
  | .local .scVector .vmem, ⟨8, _⟩ => ⟨S2x4096, .f32⟩
  | _, _ => ⟨S16384x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_0 : BitVec 32 := 0#32
  ![v3.toNat, 0]
@[reducible] def k0_t1_loop : Scf.Loop 32 :=
  let c0_i32_8 : BitVec 32 := 0#32
  let c32_i32 : BitVec 32 := 32#32
  let v15 : BitVec 32 := Scalar.addi c0_i32_8 c32_i32
  let c1_i32 : BitVec 32 := 1#32
  ⟨c0_i32_8, v15, c1_i32⟩
def k0_off2 (i : grid0.Coords) (k0_t1 : Fin k0_t1_loop.trips) (c0_i32_21 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c4_i32_20 : BitVec 32 := 4#32
  let v30 : BitVec 32 := Scalar.muli v29 c4_i32_20
  let v31 : BitVec 32 := Scalar.addi v30 c0_i32_21
  let c4_i32_22 : BitVec 32 := 4#32
  let v32 : BitVec 32 := Scalar.muli v31 c4_i32_22
  let v33 : BitVec 32 := Scalar.addi v2 v32
  let c0_i32_23 : BitVec 32 := 0#32
  ![v33.toNat, 0]
def k0_cond1 (k0_t1 : Fin k0_t1_loop.trips) : BitVec 1 :=
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c4_i32_20 : BitVec 32 := 4#32
  let v30 : BitVec 32 := Scalar.muli v29 c4_i32_20
  let c0_i32_21 : BitVec 32 := 0#32
  let v31 : BitVec 32 := Scalar.addi v30 c0_i32_21
  let c2_i32_25 : BitVec 32 := 2#32
  let v36 : BitVec 32 := Scalar.muli v31 c2_i32_25
  let c0_i32_26 : BitVec 32 := 0#32
  let v37 : BitVec 32 := Scalar.addi v36 c0_i32_26
  let c4_i32_27 : BitVec 32 := 4#32
  let v38 : BitVec 1 := Scalar.cmpi .sge v37 c4_i32_27
  let v39 : BitVec 32 := Scalar.extui v38
  let c0_i32_28 : BitVec 32 := 0#32
  let v40 : BitVec 1 := Scalar.cmpi .ne v39 c0_i32_28
  v40

def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c4_i32_20 : BitVec 32 := 4#32
  let v30 : BitVec 32 := Scalar.muli v29 c4_i32_20
  let c0_i32_21 : BitVec 32 := 0#32
  let v31 : BitVec 32 := Scalar.addi v30 c0_i32_21
  let c2_i32_25 : BitVec 32 := 2#32
  let v36 : BitVec 32 := Scalar.muli v31 c2_i32_25
  let c0_i32_26 : BitVec 32 := 0#32
  let v37 : BitVec 32 := Scalar.addi v36 c0_i32_26
  let c4_i32_133 : BitVec 32 := 4#32
  let v146 : BitVec 32 := Scalar.subi v37 c4_i32_133
  let c2_i32_134 : BitVec 32 := 2#32
  let v147 : BitVec 32 := Scalar.muli v146 c2_i32_134
  let v148 : BitVec 32 := Scalar.addi v2 v147
  let c0_i32_135 : BitVec 32 := 0#32
  ![v148.toNat, 0]
@[reducible] def k0_t2_loop : Scf.Loop 32 :=
  let c0_i32_29 : BitVec 32 := 0#32
  let c256_i32 : BitVec 32 := 256#32
  let v41 : BitVec 32 := Scalar.addi c0_i32_29 c256_i32
  let c1_i32_30 : BitVec 32 := 1#32
  ⟨c0_i32_29, v41, c1_i32_30⟩
def k0_off4 (k0_t2 : Fin k0_t2_loop.trips) : Fin 1 → Nat :=
  let c0_i32_134 : BitVec 32 := 0#32
  let c0_i32_29 : BitVec 32 := 0#32
  let c1_i32_30 : BitVec 32 := 1#32
  let arg24 : BitVec 32 := Scf.iv c0_i32_29 c1_i32_30 k0_t2
  let c1_i32_133 : BitVec 32 := 1#32
  let v146 : BitVec 32 := Scalar.muli arg24 c1_i32_133
  let v147 : BitVec 32 := Scalar.addi c0_i32_134 v146
  let c16_i32 : BitVec 32 := 16#32
  let v148 : BitVec 32 := Scalar.muli v147 c16_i32
  let v149 : Index := Scalar.indexCast v148
  ![v149.toNat]

def k0_chk1 (v150 : IVec S16 32) (v151 : IVec S16 32) : Prop :=
  (∀ a x, ((![v151, v150] : Fin 2 → IVec S16 32) a x).toNat < S4x4096.size a)
theorem k0_idx1_inb : ∀ (v150 : IVec S16 32) (v151 : IVec S16 32) (k0_hw1 : k0_chk1 v150 v151), ∀ a x, ((![v151, v150] : Fin 2 → IVec S16 32) a x).toNat < S4x4096.size a := fun v150 v151 k0_hw1 => k0_hw1
def k0_off5 (k0_t2 : Fin k0_t2_loop.trips) : Fin 2 → Nat :=
  let c0_i32_137 : BitVec 32 := 0#32
  let v154 : Index := Scalar.indexCast c0_i32_137
  let c0_i32_134 : BitVec 32 := 0#32
  let c0_i32_29 : BitVec 32 := 0#32
  let c1_i32_30 : BitVec 32 := 1#32
  let arg24 : BitVec 32 := Scf.iv c0_i32_29 c1_i32_30 k0_t2
  let c1_i32_133 : BitVec 32 := 1#32
  let v146 : BitVec 32 := Scalar.muli arg24 c1_i32_133
  let v147 : BitVec 32 := Scalar.addi c0_i32_134 v146
  let c16_i32_136 : BitVec 32 := 16#32
  let v153 : BitVec 32 := Scalar.muli v147 c16_i32_136
  let v155 : Index := Scalar.indexCast v153
  ![0, v155.toNat]

def k0_chk2 (v150 : IVec S16 32) (v157 : IVec S16 32) : Prop :=
  (∀ a x, ((![v157, v150] : Fin 2 → IVec S16 32) a x).toNat < S4x4096.size a)
theorem k0_idx2_inb : ∀ (v150 : IVec S16 32) (v157 : IVec S16 32) (k0_hw2 : k0_chk2 v150 v157), ∀ a x, ((![v157, v150] : Fin 2 → IVec S16 32) a x).toNat < S4x4096.size a := fun v150 v157 k0_hw2 => k0_hw2
def k0_off6 (k0_t2 : Fin k0_t2_loop.trips) : Fin 2 → Nat :=
  let c1_i32_140 : BitVec 32 := 1#32
  let v160 : Index := Scalar.indexCast c1_i32_140
  let c0_i32_134 : BitVec 32 := 0#32
  let c0_i32_29 : BitVec 32 := 0#32
  let c1_i32_30 : BitVec 32 := 1#32
  let arg24 : BitVec 32 := Scf.iv c0_i32_29 c1_i32_30 k0_t2
  let c1_i32_133 : BitVec 32 := 1#32
  let v146 : BitVec 32 := Scalar.muli arg24 c1_i32_133
  let v147 : BitVec 32 := Scalar.addi c0_i32_134 v146
  let c16_i32_139 : BitVec 32 := 16#32
  let v159 : BitVec 32 := Scalar.muli v147 c16_i32_139
  let v161 : Index := Scalar.indexCast v159
  ![1, v161.toNat]
def k0_off7 (i : grid0.Coords) (k0_t1 : Fin k0_t1_loop.trips) (c0_i32_21 : BitVec 32) (c0_i32_26 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c4_i32_20 : BitVec 32 := 4#32
  let v30 : BitVec 32 := Scalar.muli v29 c4_i32_20
  let v31 : BitVec 32 := Scalar.addi v30 c0_i32_21
  let c2_i32_25 : BitVec 32 := 2#32
  let v36 : BitVec 32 := Scalar.muli v31 c2_i32_25
  let v37 : BitVec 32 := Scalar.addi v36 c0_i32_26
  let c2_i32_32 : BitVec 32 := 2#32
  let v42 : BitVec 32 := Scalar.muli v37 c2_i32_32
  let v43 : BitVec 32 := Scalar.addi v2 v42
  let c0_i32_33 : BitVec 32 := 0#32
  ![v43.toNat, 0]
def k0_cond2 (k0_t1 : Fin k0_t1_loop.trips) : BitVec 1 :=
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c4_i32_20 : BitVec 32 := 4#32
  let v30 : BitVec 32 := Scalar.muli v29 c4_i32_20
  let c0_i32_21 : BitVec 32 := 0#32
  let v31 : BitVec 32 := Scalar.addi v30 c0_i32_21
  let c2_i32_35 : BitVec 32 := 2#32
  let v46 : BitVec 32 := Scalar.muli v31 c2_i32_35
  let c1_i32_36 : BitVec 32 := 1#32
  let v47 : BitVec 32 := Scalar.addi v46 c1_i32_36
  let c4_i32_37 : BitVec 32 := 4#32
  let v48 : BitVec 1 := Scalar.cmpi .sge v47 c4_i32_37
  let v49 : BitVec 32 := Scalar.extui v48
  let c0_i32_38 : BitVec 32 := 0#32
  let v50 : BitVec 1 := Scalar.cmpi .ne v49 c0_i32_38
  v50

def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c4_i32_20 : BitVec 32 := 4#32
  let v30 : BitVec 32 := Scalar.muli v29 c4_i32_20
  let c0_i32_21 : BitVec 32 := 0#32
  let v31 : BitVec 32 := Scalar.addi v30 c0_i32_21
  let c2_i32_35 : BitVec 32 := 2#32
  let v46 : BitVec 32 := Scalar.muli v31 c2_i32_35
  let c1_i32_36 : BitVec 32 := 1#32
  let v47 : BitVec 32 := Scalar.addi v46 c1_i32_36
  let c4_i32_133 : BitVec 32 := 4#32
  let v146 : BitVec 32 := Scalar.subi v47 c4_i32_133
  let c2_i32_134 : BitVec 32 := 2#32
  let v147 : BitVec 32 := Scalar.muli v146 c2_i32_134
  let v148 : BitVec 32 := Scalar.addi v2 v147
  let c0_i32_135 : BitVec 32 := 0#32
  ![v148.toNat, 0]
@[reducible] def k0_t3_loop : Scf.Loop 32 :=
  let c0_i32_39 : BitVec 32 := 0#32
  let c256_i32_40 : BitVec 32 := 256#32
  let v51 : BitVec 32 := Scalar.addi c0_i32_39 c256_i32_40
  let c1_i32_41 : BitVec 32 := 1#32
  ⟨c0_i32_39, v51, c1_i32_41⟩
def k0_off9 (k0_t3 : Fin k0_t3_loop.trips) : Fin 1 → Nat :=
  let c0_i32_134 : BitVec 32 := 0#32
  let c0_i32_39 : BitVec 32 := 0#32
  let c1_i32_41 : BitVec 32 := 1#32
  let arg24 : BitVec 32 := Scf.iv c0_i32_39 c1_i32_41 k0_t3
  let c1_i32_133 : BitVec 32 := 1#32
  let v146 : BitVec 32 := Scalar.muli arg24 c1_i32_133
  let v147 : BitVec 32 := Scalar.addi c0_i32_134 v146
  let c16_i32 : BitVec 32 := 16#32
  let v148 : BitVec 32 := Scalar.muli v147 c16_i32
  let v149 : Index := Scalar.indexCast v148
  ![v149.toNat]

def k0_chk3 (v150 : IVec S16 32) (v151 : IVec S16 32) : Prop :=
  (∀ a x, ((![v151, v150] : Fin 2 → IVec S16 32) a x).toNat < S4x4096.size a)
theorem k0_idx3_inb : ∀ (v150 : IVec S16 32) (v151 : IVec S16 32) (k0_hw3 : k0_chk3 v150 v151), ∀ a x, ((![v151, v150] : Fin 2 → IVec S16 32) a x).toNat < S4x4096.size a := fun v150 v151 k0_hw3 => k0_hw3
def k0_off10 (k0_t3 : Fin k0_t3_loop.trips) : Fin 2 → Nat :=
  let c0_i32_137 : BitVec 32 := 0#32
  let v154 : Index := Scalar.indexCast c0_i32_137
  let c0_i32_134 : BitVec 32 := 0#32
  let c0_i32_39 : BitVec 32 := 0#32
  let c1_i32_41 : BitVec 32 := 1#32
  let arg24 : BitVec 32 := Scf.iv c0_i32_39 c1_i32_41 k0_t3
  let c1_i32_133 : BitVec 32 := 1#32
  let v146 : BitVec 32 := Scalar.muli arg24 c1_i32_133
  let v147 : BitVec 32 := Scalar.addi c0_i32_134 v146
  let c16_i32_136 : BitVec 32 := 16#32
  let v153 : BitVec 32 := Scalar.muli v147 c16_i32_136
  let v155 : Index := Scalar.indexCast v153
  ![0, v155.toNat]

def k0_chk4 (v150 : IVec S16 32) (v157 : IVec S16 32) : Prop :=
  (∀ a x, ((![v157, v150] : Fin 2 → IVec S16 32) a x).toNat < S4x4096.size a)
theorem k0_idx4_inb : ∀ (v150 : IVec S16 32) (v157 : IVec S16 32) (k0_hw4 : k0_chk4 v150 v157), ∀ a x, ((![v157, v150] : Fin 2 → IVec S16 32) a x).toNat < S4x4096.size a := fun v150 v157 k0_hw4 => k0_hw4
def k0_off11 (k0_t3 : Fin k0_t3_loop.trips) : Fin 2 → Nat :=
  let c1_i32_140 : BitVec 32 := 1#32
  let v160 : Index := Scalar.indexCast c1_i32_140
  let c0_i32_134 : BitVec 32 := 0#32
  let c0_i32_39 : BitVec 32 := 0#32
  let c1_i32_41 : BitVec 32 := 1#32
  let arg24 : BitVec 32 := Scf.iv c0_i32_39 c1_i32_41 k0_t3
  let c1_i32_133 : BitVec 32 := 1#32
  let v146 : BitVec 32 := Scalar.muli arg24 c1_i32_133
  let v147 : BitVec 32 := Scalar.addi c0_i32_134 v146
  let c16_i32_139 : BitVec 32 := 16#32
  let v159 : BitVec 32 := Scalar.muli v147 c16_i32_139
  let v161 : Index := Scalar.indexCast v159
  ![1, v161.toNat]
def k0_cond3 (k0_t1 : Fin k0_t1_loop.trips) : BitVec 1 :=
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c31_i32 : BitVec 32 := 31#32
  let v56 : BitVec 1 := Scalar.cmpi .slt v29 c31_i32
  let v57 : BitVec 32 := Scalar.extui v56
  let c0_i32_46 : BitVec 32 := 0#32
  let v58 : BitVec 1 := Scalar.cmpi .ne v57 c0_i32_46
  v58

def k0_off12 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c4_i32_20 : BitVec 32 := 4#32
  let v30 : BitVec 32 := Scalar.muli v29 c4_i32_20
  let c0_i32_21 : BitVec 32 := 0#32
  let v31 : BitVec 32 := Scalar.addi v30 c0_i32_21
  let c4_i32_133 : BitVec 32 := 4#32
  let v146 : BitVec 32 := Scalar.addi v31 c4_i32_133
  let c4_i32_134 : BitVec 32 := 4#32
  let v147 : BitVec 32 := Scalar.muli v146 c4_i32_134
  let v148 : BitVec 32 := Scalar.addi v2 v147
  let c0_i32_135 : BitVec 32 := 0#32
  ![v148.toNat, 0]
def k0_cond4 (k0_t1 : Fin k0_t1_loop.trips) : BitVec 1 :=
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c4_i32_47 : BitVec 32 := 4#32
  let v59 : BitVec 32 := Scalar.muli v29 c4_i32_47
  let c1_i32_48 : BitVec 32 := 1#32
  let v60 : BitVec 32 := Scalar.addi v59 c1_i32_48
  let c2_i32_52 : BitVec 32 := 2#32
  let v65 : BitVec 32 := Scalar.muli v60 c2_i32_52
  let c0_i32_53 : BitVec 32 := 0#32
  let v66 : BitVec 32 := Scalar.addi v65 c0_i32_53
  let c4_i32_54 : BitVec 32 := 4#32
  let v67 : BitVec 1 := Scalar.cmpi .sge v66 c4_i32_54
  let v68 : BitVec 32 := Scalar.extui v67
  let c0_i32_55 : BitVec 32 := 0#32
  let v69 : BitVec 1 := Scalar.cmpi .ne v68 c0_i32_55
  v69

def k0_off13 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c4_i32_47 : BitVec 32 := 4#32
  let v59 : BitVec 32 := Scalar.muli v29 c4_i32_47
  let c1_i32_48 : BitVec 32 := 1#32
  let v60 : BitVec 32 := Scalar.addi v59 c1_i32_48
  let c2_i32_52 : BitVec 32 := 2#32
  let v65 : BitVec 32 := Scalar.muli v60 c2_i32_52
  let c0_i32_53 : BitVec 32 := 0#32
  let v66 : BitVec 32 := Scalar.addi v65 c0_i32_53
  let c4_i32_133 : BitVec 32 := 4#32
  let v146 : BitVec 32 := Scalar.subi v66 c4_i32_133
  let c2_i32_134 : BitVec 32 := 2#32
  let v147 : BitVec 32 := Scalar.muli v146 c2_i32_134
  let v148 : BitVec 32 := Scalar.addi v2 v147
  let c0_i32_135 : BitVec 32 := 0#32
  ![v148.toNat, 0]
@[reducible] def k0_t4_loop : Scf.Loop 32 :=
  let c0_i32_56 : BitVec 32 := 0#32
  let c256_i32_57 : BitVec 32 := 256#32
  let v70 : BitVec 32 := Scalar.addi c0_i32_56 c256_i32_57
  let c1_i32_58 : BitVec 32 := 1#32
  ⟨c0_i32_56, v70, c1_i32_58⟩
def k0_off14 (k0_t4 : Fin k0_t4_loop.trips) : Fin 1 → Nat :=
  let c0_i32_134 : BitVec 32 := 0#32
  let c0_i32_56 : BitVec 32 := 0#32
  let c1_i32_58 : BitVec 32 := 1#32
  let arg24 : BitVec 32 := Scf.iv c0_i32_56 c1_i32_58 k0_t4
  let c1_i32_133 : BitVec 32 := 1#32
  let v146 : BitVec 32 := Scalar.muli arg24 c1_i32_133
  let v147 : BitVec 32 := Scalar.addi c0_i32_134 v146
  let c16_i32 : BitVec 32 := 16#32
  let v148 : BitVec 32 := Scalar.muli v147 c16_i32
  let v149 : Index := Scalar.indexCast v148
  ![v149.toNat]

def k0_chk5 (v150 : IVec S16 32) (v151 : IVec S16 32) : Prop :=
  (∀ a x, ((![v151, v150] : Fin 2 → IVec S16 32) a x).toNat < S4x4096.size a)
theorem k0_idx5_inb : ∀ (v150 : IVec S16 32) (v151 : IVec S16 32) (k0_hw5 : k0_chk5 v150 v151), ∀ a x, ((![v151, v150] : Fin 2 → IVec S16 32) a x).toNat < S4x4096.size a := fun v150 v151 k0_hw5 => k0_hw5
def k0_off15 (k0_t4 : Fin k0_t4_loop.trips) : Fin 2 → Nat :=
  let c0_i32_137 : BitVec 32 := 0#32
  let v154 : Index := Scalar.indexCast c0_i32_137
  let c0_i32_134 : BitVec 32 := 0#32
  let c0_i32_56 : BitVec 32 := 0#32
  let c1_i32_58 : BitVec 32 := 1#32
  let arg24 : BitVec 32 := Scf.iv c0_i32_56 c1_i32_58 k0_t4
  let c1_i32_133 : BitVec 32 := 1#32
  let v146 : BitVec 32 := Scalar.muli arg24 c1_i32_133
  let v147 : BitVec 32 := Scalar.addi c0_i32_134 v146
  let c16_i32_136 : BitVec 32 := 16#32
  let v153 : BitVec 32 := Scalar.muli v147 c16_i32_136
  let v155 : Index := Scalar.indexCast v153
  ![0, v155.toNat]

def k0_chk6 (v150 : IVec S16 32) (v157 : IVec S16 32) : Prop :=
  (∀ a x, ((![v157, v150] : Fin 2 → IVec S16 32) a x).toNat < S4x4096.size a)
theorem k0_idx6_inb : ∀ (v150 : IVec S16 32) (v157 : IVec S16 32) (k0_hw6 : k0_chk6 v150 v157), ∀ a x, ((![v157, v150] : Fin 2 → IVec S16 32) a x).toNat < S4x4096.size a := fun v150 v157 k0_hw6 => k0_hw6
def k0_off16 (k0_t4 : Fin k0_t4_loop.trips) : Fin 2 → Nat :=
  let c1_i32_140 : BitVec 32 := 1#32
  let v160 : Index := Scalar.indexCast c1_i32_140
  let c0_i32_134 : BitVec 32 := 0#32
  let c0_i32_56 : BitVec 32 := 0#32
  let c1_i32_58 : BitVec 32 := 1#32
  let arg24 : BitVec 32 := Scf.iv c0_i32_56 c1_i32_58 k0_t4
  let c1_i32_133 : BitVec 32 := 1#32
  let v146 : BitVec 32 := Scalar.muli arg24 c1_i32_133
  let v147 : BitVec 32 := Scalar.addi c0_i32_134 v146
  let c16_i32_139 : BitVec 32 := 16#32
  let v159 : BitVec 32 := Scalar.muli v147 c16_i32_139
  let v161 : Index := Scalar.indexCast v159
  ![1, v161.toNat]
def k0_cond5 (k0_t1 : Fin k0_t1_loop.trips) : BitVec 1 :=
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c4_i32_47 : BitVec 32 := 4#32
  let v59 : BitVec 32 := Scalar.muli v29 c4_i32_47
  let c1_i32_48 : BitVec 32 := 1#32
  let v60 : BitVec 32 := Scalar.addi v59 c1_i32_48
  let c2_i32_63 : BitVec 32 := 2#32
  let v75 : BitVec 32 := Scalar.muli v60 c2_i32_63
  let c1_i32_64 : BitVec 32 := 1#32
  let v76 : BitVec 32 := Scalar.addi v75 c1_i32_64
  let c4_i32_65 : BitVec 32 := 4#32
  let v77 : BitVec 1 := Scalar.cmpi .sge v76 c4_i32_65
  let v78 : BitVec 32 := Scalar.extui v77
  let c0_i32_66 : BitVec 32 := 0#32
  let v79 : BitVec 1 := Scalar.cmpi .ne v78 c0_i32_66
  v79

def k0_off17 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c4_i32_47 : BitVec 32 := 4#32
  let v59 : BitVec 32 := Scalar.muli v29 c4_i32_47
  let c1_i32_48 : BitVec 32 := 1#32
  let v60 : BitVec 32 := Scalar.addi v59 c1_i32_48
  let c2_i32_63 : BitVec 32 := 2#32
  let v75 : BitVec 32 := Scalar.muli v60 c2_i32_63
  let c1_i32_64 : BitVec 32 := 1#32
  let v76 : BitVec 32 := Scalar.addi v75 c1_i32_64
  let c4_i32_133 : BitVec 32 := 4#32
  let v146 : BitVec 32 := Scalar.subi v76 c4_i32_133
  let c2_i32_134 : BitVec 32 := 2#32
  let v147 : BitVec 32 := Scalar.muli v146 c2_i32_134
  let v148 : BitVec 32 := Scalar.addi v2 v147
  let c0_i32_135 : BitVec 32 := 0#32
  ![v148.toNat, 0]
@[reducible] def k0_t5_loop : Scf.Loop 32 :=
  let c0_i32_67 : BitVec 32 := 0#32
  let c256_i32_68 : BitVec 32 := 256#32
  let v80 : BitVec 32 := Scalar.addi c0_i32_67 c256_i32_68
  let c1_i32_69 : BitVec 32 := 1#32
  ⟨c0_i32_67, v80, c1_i32_69⟩
def k0_off18 (k0_t5 : Fin k0_t5_loop.trips) : Fin 1 → Nat :=
  let c0_i32_134 : BitVec 32 := 0#32
  let c0_i32_67 : BitVec 32 := 0#32
  let c1_i32_69 : BitVec 32 := 1#32
  let arg24 : BitVec 32 := Scf.iv c0_i32_67 c1_i32_69 k0_t5
  let c1_i32_133 : BitVec 32 := 1#32
  let v146 : BitVec 32 := Scalar.muli arg24 c1_i32_133
  let v147 : BitVec 32 := Scalar.addi c0_i32_134 v146
  let c16_i32 : BitVec 32 := 16#32
  let v148 : BitVec 32 := Scalar.muli v147 c16_i32
  let v149 : Index := Scalar.indexCast v148
  ![v149.toNat]

def k0_chk7 (v150 : IVec S16 32) (v151 : IVec S16 32) : Prop :=
  (∀ a x, ((![v151, v150] : Fin 2 → IVec S16 32) a x).toNat < S4x4096.size a)
theorem k0_idx7_inb : ∀ (v150 : IVec S16 32) (v151 : IVec S16 32) (k0_hw7 : k0_chk7 v150 v151), ∀ a x, ((![v151, v150] : Fin 2 → IVec S16 32) a x).toNat < S4x4096.size a := fun v150 v151 k0_hw7 => k0_hw7
def k0_off19 (k0_t5 : Fin k0_t5_loop.trips) : Fin 2 → Nat :=
  let c0_i32_137 : BitVec 32 := 0#32
  let v154 : Index := Scalar.indexCast c0_i32_137
  let c0_i32_134 : BitVec 32 := 0#32
  let c0_i32_67 : BitVec 32 := 0#32
  let c1_i32_69 : BitVec 32 := 1#32
  let arg24 : BitVec 32 := Scf.iv c0_i32_67 c1_i32_69 k0_t5
  let c1_i32_133 : BitVec 32 := 1#32
  let v146 : BitVec 32 := Scalar.muli arg24 c1_i32_133
  let v147 : BitVec 32 := Scalar.addi c0_i32_134 v146
  let c16_i32_136 : BitVec 32 := 16#32
  let v153 : BitVec 32 := Scalar.muli v147 c16_i32_136
  let v155 : Index := Scalar.indexCast v153
  ![0, v155.toNat]

def k0_chk8 (v150 : IVec S16 32) (v157 : IVec S16 32) : Prop :=
  (∀ a x, ((![v157, v150] : Fin 2 → IVec S16 32) a x).toNat < S4x4096.size a)
theorem k0_idx8_inb : ∀ (v150 : IVec S16 32) (v157 : IVec S16 32) (k0_hw8 : k0_chk8 v150 v157), ∀ a x, ((![v157, v150] : Fin 2 → IVec S16 32) a x).toNat < S4x4096.size a := fun v150 v157 k0_hw8 => k0_hw8
def k0_off20 (k0_t5 : Fin k0_t5_loop.trips) : Fin 2 → Nat :=
  let c1_i32_140 : BitVec 32 := 1#32
  let v160 : Index := Scalar.indexCast c1_i32_140
  let c0_i32_134 : BitVec 32 := 0#32
  let c0_i32_67 : BitVec 32 := 0#32
  let c1_i32_69 : BitVec 32 := 1#32
  let arg24 : BitVec 32 := Scf.iv c0_i32_67 c1_i32_69 k0_t5
  let c1_i32_133 : BitVec 32 := 1#32
  let v146 : BitVec 32 := Scalar.muli arg24 c1_i32_133
  let v147 : BitVec 32 := Scalar.addi c0_i32_134 v146
  let c16_i32_139 : BitVec 32 := 16#32
  let v159 : BitVec 32 := Scalar.muli v147 c16_i32_139
  let v161 : Index := Scalar.indexCast v159
  ![1, v161.toNat]
def k0_cond6 (k0_t1 : Fin k0_t1_loop.trips) : BitVec 1 :=
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c31_i32_74 : BitVec 32 := 31#32
  let v85 : BitVec 1 := Scalar.cmpi .slt v29 c31_i32_74
  let v86 : BitVec 32 := Scalar.extui v85
  let c0_i32_75 : BitVec 32 := 0#32
  let v87 : BitVec 1 := Scalar.cmpi .ne v86 c0_i32_75
  v87

def k0_off21 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c4_i32_47 : BitVec 32 := 4#32
  let v59 : BitVec 32 := Scalar.muli v29 c4_i32_47
  let c1_i32_48 : BitVec 32 := 1#32
  let v60 : BitVec 32 := Scalar.addi v59 c1_i32_48
  let c4_i32_133 : BitVec 32 := 4#32
  let v146 : BitVec 32 := Scalar.addi v60 c4_i32_133
  let c4_i32_134 : BitVec 32 := 4#32
  let v147 : BitVec 32 := Scalar.muli v146 c4_i32_134
  let v148 : BitVec 32 := Scalar.addi v2 v147
  let c0_i32_135 : BitVec 32 := 0#32
  ![v148.toNat, 0]
def k0_cond7 (k0_t1 : Fin k0_t1_loop.trips) : BitVec 1 :=
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c4_i32_76 : BitVec 32 := 4#32
  let v88 : BitVec 32 := Scalar.muli v29 c4_i32_76
  let c2_i32_77 : BitVec 32 := 2#32
  let v89 : BitVec 32 := Scalar.addi v88 c2_i32_77
  let c2_i32_81 : BitVec 32 := 2#32
  let v94 : BitVec 32 := Scalar.muli v89 c2_i32_81
  let c0_i32_82 : BitVec 32 := 0#32
  let v95 : BitVec 32 := Scalar.addi v94 c0_i32_82
  let c4_i32_83 : BitVec 32 := 4#32
  let v96 : BitVec 1 := Scalar.cmpi .sge v95 c4_i32_83
  let v97 : BitVec 32 := Scalar.extui v96
  let c0_i32_84 : BitVec 32 := 0#32
  let v98 : BitVec 1 := Scalar.cmpi .ne v97 c0_i32_84
  v98

def k0_off22 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c4_i32_76 : BitVec 32 := 4#32
  let v88 : BitVec 32 := Scalar.muli v29 c4_i32_76
  let c2_i32_77 : BitVec 32 := 2#32
  let v89 : BitVec 32 := Scalar.addi v88 c2_i32_77
  let c2_i32_81 : BitVec 32 := 2#32
  let v94 : BitVec 32 := Scalar.muli v89 c2_i32_81
  let c0_i32_82 : BitVec 32 := 0#32
  let v95 : BitVec 32 := Scalar.addi v94 c0_i32_82
  let c4_i32_133 : BitVec 32 := 4#32
  let v146 : BitVec 32 := Scalar.subi v95 c4_i32_133
  let c2_i32_134 : BitVec 32 := 2#32
  let v147 : BitVec 32 := Scalar.muli v146 c2_i32_134
  let v148 : BitVec 32 := Scalar.addi v2 v147
  let c0_i32_135 : BitVec 32 := 0#32
  ![v148.toNat, 0]
@[reducible] def k0_t6_loop : Scf.Loop 32 :=
  let c0_i32_85 : BitVec 32 := 0#32
  let c256_i32_86 : BitVec 32 := 256#32
  let v99 : BitVec 32 := Scalar.addi c0_i32_85 c256_i32_86
  let c1_i32_87 : BitVec 32 := 1#32
  ⟨c0_i32_85, v99, c1_i32_87⟩
def k0_off23 (k0_t6 : Fin k0_t6_loop.trips) : Fin 1 → Nat :=
  let c0_i32_134 : BitVec 32 := 0#32
  let c0_i32_85 : BitVec 32 := 0#32
  let c1_i32_87 : BitVec 32 := 1#32
  let arg24 : BitVec 32 := Scf.iv c0_i32_85 c1_i32_87 k0_t6
  let c1_i32_133 : BitVec 32 := 1#32
  let v146 : BitVec 32 := Scalar.muli arg24 c1_i32_133
  let v147 : BitVec 32 := Scalar.addi c0_i32_134 v146
  let c16_i32 : BitVec 32 := 16#32
  let v148 : BitVec 32 := Scalar.muli v147 c16_i32
  let v149 : Index := Scalar.indexCast v148
  ![v149.toNat]

def k0_chk9 (v150 : IVec S16 32) (v151 : IVec S16 32) : Prop :=
  (∀ a x, ((![v151, v150] : Fin 2 → IVec S16 32) a x).toNat < S4x4096.size a)
theorem k0_idx9_inb : ∀ (v150 : IVec S16 32) (v151 : IVec S16 32) (k0_hw9 : k0_chk9 v150 v151), ∀ a x, ((![v151, v150] : Fin 2 → IVec S16 32) a x).toNat < S4x4096.size a := fun v150 v151 k0_hw9 => k0_hw9
def k0_off24 (k0_t6 : Fin k0_t6_loop.trips) : Fin 2 → Nat :=
  let c0_i32_137 : BitVec 32 := 0#32
  let v154 : Index := Scalar.indexCast c0_i32_137
  let c0_i32_134 : BitVec 32 := 0#32
  let c0_i32_85 : BitVec 32 := 0#32
  let c1_i32_87 : BitVec 32 := 1#32
  let arg24 : BitVec 32 := Scf.iv c0_i32_85 c1_i32_87 k0_t6
  let c1_i32_133 : BitVec 32 := 1#32
  let v146 : BitVec 32 := Scalar.muli arg24 c1_i32_133
  let v147 : BitVec 32 := Scalar.addi c0_i32_134 v146
  let c16_i32_136 : BitVec 32 := 16#32
  let v153 : BitVec 32 := Scalar.muli v147 c16_i32_136
  let v155 : Index := Scalar.indexCast v153
  ![0, v155.toNat]

def k0_chk10 (v150 : IVec S16 32) (v157 : IVec S16 32) : Prop :=
  (∀ a x, ((![v157, v150] : Fin 2 → IVec S16 32) a x).toNat < S4x4096.size a)
theorem k0_idx10_inb : ∀ (v150 : IVec S16 32) (v157 : IVec S16 32) (k0_hw10 : k0_chk10 v150 v157), ∀ a x, ((![v157, v150] : Fin 2 → IVec S16 32) a x).toNat < S4x4096.size a := fun v150 v157 k0_hw10 => k0_hw10
def k0_off25 (k0_t6 : Fin k0_t6_loop.trips) : Fin 2 → Nat :=
  let c1_i32_140 : BitVec 32 := 1#32
  let v160 : Index := Scalar.indexCast c1_i32_140
  let c0_i32_134 : BitVec 32 := 0#32
  let c0_i32_85 : BitVec 32 := 0#32
  let c1_i32_87 : BitVec 32 := 1#32
  let arg24 : BitVec 32 := Scf.iv c0_i32_85 c1_i32_87 k0_t6
  let c1_i32_133 : BitVec 32 := 1#32
  let v146 : BitVec 32 := Scalar.muli arg24 c1_i32_133
  let v147 : BitVec 32 := Scalar.addi c0_i32_134 v146
  let c16_i32_139 : BitVec 32 := 16#32
  let v159 : BitVec 32 := Scalar.muli v147 c16_i32_139
  let v161 : Index := Scalar.indexCast v159
  ![1, v161.toNat]
def k0_cond8 (k0_t1 : Fin k0_t1_loop.trips) : BitVec 1 :=
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c4_i32_76 : BitVec 32 := 4#32
  let v88 : BitVec 32 := Scalar.muli v29 c4_i32_76
  let c2_i32_77 : BitVec 32 := 2#32
  let v89 : BitVec 32 := Scalar.addi v88 c2_i32_77
  let c2_i32_92 : BitVec 32 := 2#32
  let v104 : BitVec 32 := Scalar.muli v89 c2_i32_92
  let c1_i32_93 : BitVec 32 := 1#32
  let v105 : BitVec 32 := Scalar.addi v104 c1_i32_93
  let c4_i32_94 : BitVec 32 := 4#32
  let v106 : BitVec 1 := Scalar.cmpi .sge v105 c4_i32_94
  let v107 : BitVec 32 := Scalar.extui v106
  let c0_i32_95 : BitVec 32 := 0#32
  let v108 : BitVec 1 := Scalar.cmpi .ne v107 c0_i32_95
  v108

def k0_off26 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c4_i32_76 : BitVec 32 := 4#32
  let v88 : BitVec 32 := Scalar.muli v29 c4_i32_76
  let c2_i32_77 : BitVec 32 := 2#32
  let v89 : BitVec 32 := Scalar.addi v88 c2_i32_77
  let c2_i32_92 : BitVec 32 := 2#32
  let v104 : BitVec 32 := Scalar.muli v89 c2_i32_92
  let c1_i32_93 : BitVec 32 := 1#32
  let v105 : BitVec 32 := Scalar.addi v104 c1_i32_93
  let c4_i32_133 : BitVec 32 := 4#32
  let v146 : BitVec 32 := Scalar.subi v105 c4_i32_133
  let c2_i32_134 : BitVec 32 := 2#32
  let v147 : BitVec 32 := Scalar.muli v146 c2_i32_134
  let v148 : BitVec 32 := Scalar.addi v2 v147
  let c0_i32_135 : BitVec 32 := 0#32
  ![v148.toNat, 0]
@[reducible] def k0_t7_loop : Scf.Loop 32 :=
  let c0_i32_96 : BitVec 32 := 0#32
  let c256_i32_97 : BitVec 32 := 256#32
  let v109 : BitVec 32 := Scalar.addi c0_i32_96 c256_i32_97
  let c1_i32_98 : BitVec 32 := 1#32
  ⟨c0_i32_96, v109, c1_i32_98⟩
def k0_off27 (k0_t7 : Fin k0_t7_loop.trips) : Fin 1 → Nat :=
  let c0_i32_134 : BitVec 32 := 0#32
  let c0_i32_96 : BitVec 32 := 0#32
  let c1_i32_98 : BitVec 32 := 1#32
  let arg24 : BitVec 32 := Scf.iv c0_i32_96 c1_i32_98 k0_t7
  let c1_i32_133 : BitVec 32 := 1#32
  let v146 : BitVec 32 := Scalar.muli arg24 c1_i32_133
  let v147 : BitVec 32 := Scalar.addi c0_i32_134 v146
  let c16_i32 : BitVec 32 := 16#32
  let v148 : BitVec 32 := Scalar.muli v147 c16_i32
  let v149 : Index := Scalar.indexCast v148
  ![v149.toNat]

def k0_chk11 (v150 : IVec S16 32) (v151 : IVec S16 32) : Prop :=
  (∀ a x, ((![v151, v150] : Fin 2 → IVec S16 32) a x).toNat < S4x4096.size a)
theorem k0_idx11_inb : ∀ (v150 : IVec S16 32) (v151 : IVec S16 32) (k0_hw11 : k0_chk11 v150 v151), ∀ a x, ((![v151, v150] : Fin 2 → IVec S16 32) a x).toNat < S4x4096.size a := fun v150 v151 k0_hw11 => k0_hw11
def k0_off28 (k0_t7 : Fin k0_t7_loop.trips) : Fin 2 → Nat :=
  let c0_i32_137 : BitVec 32 := 0#32
  let v154 : Index := Scalar.indexCast c0_i32_137
  let c0_i32_134 : BitVec 32 := 0#32
  let c0_i32_96 : BitVec 32 := 0#32
  let c1_i32_98 : BitVec 32 := 1#32
  let arg24 : BitVec 32 := Scf.iv c0_i32_96 c1_i32_98 k0_t7
  let c1_i32_133 : BitVec 32 := 1#32
  let v146 : BitVec 32 := Scalar.muli arg24 c1_i32_133
  let v147 : BitVec 32 := Scalar.addi c0_i32_134 v146
  let c16_i32_136 : BitVec 32 := 16#32
  let v153 : BitVec 32 := Scalar.muli v147 c16_i32_136
  let v155 : Index := Scalar.indexCast v153
  ![0, v155.toNat]

def k0_chk12 (v150 : IVec S16 32) (v157 : IVec S16 32) : Prop :=
  (∀ a x, ((![v157, v150] : Fin 2 → IVec S16 32) a x).toNat < S4x4096.size a)
theorem k0_idx12_inb : ∀ (v150 : IVec S16 32) (v157 : IVec S16 32) (k0_hw12 : k0_chk12 v150 v157), ∀ a x, ((![v157, v150] : Fin 2 → IVec S16 32) a x).toNat < S4x4096.size a := fun v150 v157 k0_hw12 => k0_hw12
def k0_off29 (k0_t7 : Fin k0_t7_loop.trips) : Fin 2 → Nat :=
  let c1_i32_140 : BitVec 32 := 1#32
  let v160 : Index := Scalar.indexCast c1_i32_140
  let c0_i32_134 : BitVec 32 := 0#32
  let c0_i32_96 : BitVec 32 := 0#32
  let c1_i32_98 : BitVec 32 := 1#32
  let arg24 : BitVec 32 := Scf.iv c0_i32_96 c1_i32_98 k0_t7
  let c1_i32_133 : BitVec 32 := 1#32
  let v146 : BitVec 32 := Scalar.muli arg24 c1_i32_133
  let v147 : BitVec 32 := Scalar.addi c0_i32_134 v146
  let c16_i32_139 : BitVec 32 := 16#32
  let v159 : BitVec 32 := Scalar.muli v147 c16_i32_139
  let v161 : Index := Scalar.indexCast v159
  ![1, v161.toNat]
def k0_cond9 (k0_t1 : Fin k0_t1_loop.trips) : BitVec 1 :=
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c31_i32_103 : BitVec 32 := 31#32
  let v114 : BitVec 1 := Scalar.cmpi .slt v29 c31_i32_103
  let v115 : BitVec 32 := Scalar.extui v114
  let c0_i32_104 : BitVec 32 := 0#32
  let v116 : BitVec 1 := Scalar.cmpi .ne v115 c0_i32_104
  v116

def k0_off30 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c4_i32_76 : BitVec 32 := 4#32
  let v88 : BitVec 32 := Scalar.muli v29 c4_i32_76
  let c2_i32_77 : BitVec 32 := 2#32
  let v89 : BitVec 32 := Scalar.addi v88 c2_i32_77
  let c4_i32_133 : BitVec 32 := 4#32
  let v146 : BitVec 32 := Scalar.addi v89 c4_i32_133
  let c4_i32_134 : BitVec 32 := 4#32
  let v147 : BitVec 32 := Scalar.muli v146 c4_i32_134
  let v148 : BitVec 32 := Scalar.addi v2 v147
  let c0_i32_135 : BitVec 32 := 0#32
  ![v148.toNat, 0]
def k0_cond10 (k0_t1 : Fin k0_t1_loop.trips) : BitVec 1 :=
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c4_i32_105 : BitVec 32 := 4#32
  let v117 : BitVec 32 := Scalar.muli v29 c4_i32_105
  let c3_i32 : BitVec 32 := 3#32
  let v118 : BitVec 32 := Scalar.addi v117 c3_i32
  let c2_i32_109 : BitVec 32 := 2#32
  let v123 : BitVec 32 := Scalar.muli v118 c2_i32_109
  let c0_i32_110 : BitVec 32 := 0#32
  let v124 : BitVec 32 := Scalar.addi v123 c0_i32_110
  let c4_i32_111 : BitVec 32 := 4#32
  let v125 : BitVec 1 := Scalar.cmpi .sge v124 c4_i32_111
  let v126 : BitVec 32 := Scalar.extui v125
  let c0_i32_112 : BitVec 32 := 0#32
  let v127 : BitVec 1 := Scalar.cmpi .ne v126 c0_i32_112
  v127

def k0_off31 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c4_i32_105 : BitVec 32 := 4#32
  let v117 : BitVec 32 := Scalar.muli v29 c4_i32_105
  let c3_i32 : BitVec 32 := 3#32
  let v118 : BitVec 32 := Scalar.addi v117 c3_i32
  let c2_i32_109 : BitVec 32 := 2#32
  let v123 : BitVec 32 := Scalar.muli v118 c2_i32_109
  let c0_i32_110 : BitVec 32 := 0#32
  let v124 : BitVec 32 := Scalar.addi v123 c0_i32_110
  let c4_i32_133 : BitVec 32 := 4#32
  let v146 : BitVec 32 := Scalar.subi v124 c4_i32_133
  let c2_i32_134 : BitVec 32 := 2#32
  let v147 : BitVec 32 := Scalar.muli v146 c2_i32_134
  let v148 : BitVec 32 := Scalar.addi v2 v147
  let c0_i32_135 : BitVec 32 := 0#32
  ![v148.toNat, 0]
@[reducible] def k0_t8_loop : Scf.Loop 32 :=
  let c0_i32_113 : BitVec 32 := 0#32
  let c256_i32_114 : BitVec 32 := 256#32
  let v128 : BitVec 32 := Scalar.addi c0_i32_113 c256_i32_114
  let c1_i32_115 : BitVec 32 := 1#32
  ⟨c0_i32_113, v128, c1_i32_115⟩
def k0_off32 (k0_t8 : Fin k0_t8_loop.trips) : Fin 1 → Nat :=
  let c0_i32_134 : BitVec 32 := 0#32
  let c0_i32_113 : BitVec 32 := 0#32
  let c1_i32_115 : BitVec 32 := 1#32
  let arg24 : BitVec 32 := Scf.iv c0_i32_113 c1_i32_115 k0_t8
  let c1_i32_133 : BitVec 32 := 1#32
  let v146 : BitVec 32 := Scalar.muli arg24 c1_i32_133
  let v147 : BitVec 32 := Scalar.addi c0_i32_134 v146
  let c16_i32 : BitVec 32 := 16#32
  let v148 : BitVec 32 := Scalar.muli v147 c16_i32
  let v149 : Index := Scalar.indexCast v148
  ![v149.toNat]

def k0_chk13 (v150 : IVec S16 32) (v151 : IVec S16 32) : Prop :=
  (∀ a x, ((![v151, v150] : Fin 2 → IVec S16 32) a x).toNat < S4x4096.size a)
theorem k0_idx13_inb : ∀ (v150 : IVec S16 32) (v151 : IVec S16 32) (k0_hw13 : k0_chk13 v150 v151), ∀ a x, ((![v151, v150] : Fin 2 → IVec S16 32) a x).toNat < S4x4096.size a := fun v150 v151 k0_hw13 => k0_hw13
def k0_off33 (k0_t8 : Fin k0_t8_loop.trips) : Fin 2 → Nat :=
  let c0_i32_137 : BitVec 32 := 0#32
  let v154 : Index := Scalar.indexCast c0_i32_137
  let c0_i32_134 : BitVec 32 := 0#32
  let c0_i32_113 : BitVec 32 := 0#32
  let c1_i32_115 : BitVec 32 := 1#32
  let arg24 : BitVec 32 := Scf.iv c0_i32_113 c1_i32_115 k0_t8
  let c1_i32_133 : BitVec 32 := 1#32
  let v146 : BitVec 32 := Scalar.muli arg24 c1_i32_133
  let v147 : BitVec 32 := Scalar.addi c0_i32_134 v146
  let c16_i32_136 : BitVec 32 := 16#32
  let v153 : BitVec 32 := Scalar.muli v147 c16_i32_136
  let v155 : Index := Scalar.indexCast v153
  ![0, v155.toNat]

def k0_chk14 (v150 : IVec S16 32) (v157 : IVec S16 32) : Prop :=
  (∀ a x, ((![v157, v150] : Fin 2 → IVec S16 32) a x).toNat < S4x4096.size a)
theorem k0_idx14_inb : ∀ (v150 : IVec S16 32) (v157 : IVec S16 32) (k0_hw14 : k0_chk14 v150 v157), ∀ a x, ((![v157, v150] : Fin 2 → IVec S16 32) a x).toNat < S4x4096.size a := fun v150 v157 k0_hw14 => k0_hw14
def k0_off34 (k0_t8 : Fin k0_t8_loop.trips) : Fin 2 → Nat :=
  let c1_i32_140 : BitVec 32 := 1#32
  let v160 : Index := Scalar.indexCast c1_i32_140
  let c0_i32_134 : BitVec 32 := 0#32
  let c0_i32_113 : BitVec 32 := 0#32
  let c1_i32_115 : BitVec 32 := 1#32
  let arg24 : BitVec 32 := Scf.iv c0_i32_113 c1_i32_115 k0_t8
  let c1_i32_133 : BitVec 32 := 1#32
  let v146 : BitVec 32 := Scalar.muli arg24 c1_i32_133
  let v147 : BitVec 32 := Scalar.addi c0_i32_134 v146
  let c16_i32_139 : BitVec 32 := 16#32
  let v159 : BitVec 32 := Scalar.muli v147 c16_i32_139
  let v161 : Index := Scalar.indexCast v159
  ![1, v161.toNat]
def k0_cond11 (k0_t1 : Fin k0_t1_loop.trips) : BitVec 1 :=
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c4_i32_105 : BitVec 32 := 4#32
  let v117 : BitVec 32 := Scalar.muli v29 c4_i32_105
  let c3_i32 : BitVec 32 := 3#32
  let v118 : BitVec 32 := Scalar.addi v117 c3_i32
  let c2_i32_120 : BitVec 32 := 2#32
  let v133 : BitVec 32 := Scalar.muli v118 c2_i32_120
  let c1_i32_121 : BitVec 32 := 1#32
  let v134 : BitVec 32 := Scalar.addi v133 c1_i32_121
  let c4_i32_122 : BitVec 32 := 4#32
  let v135 : BitVec 1 := Scalar.cmpi .sge v134 c4_i32_122
  let v136 : BitVec 32 := Scalar.extui v135
  let c0_i32_123 : BitVec 32 := 0#32
  let v137 : BitVec 1 := Scalar.cmpi .ne v136 c0_i32_123
  v137

def k0_off35 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c4_i32_105 : BitVec 32 := 4#32
  let v117 : BitVec 32 := Scalar.muli v29 c4_i32_105
  let c3_i32 : BitVec 32 := 3#32
  let v118 : BitVec 32 := Scalar.addi v117 c3_i32
  let c2_i32_120 : BitVec 32 := 2#32
  let v133 : BitVec 32 := Scalar.muli v118 c2_i32_120
  let c1_i32_121 : BitVec 32 := 1#32
  let v134 : BitVec 32 := Scalar.addi v133 c1_i32_121
  let c4_i32_133 : BitVec 32 := 4#32
  let v146 : BitVec 32 := Scalar.subi v134 c4_i32_133
  let c2_i32_134 : BitVec 32 := 2#32
  let v147 : BitVec 32 := Scalar.muli v146 c2_i32_134
  let v148 : BitVec 32 := Scalar.addi v2 v147
  let c0_i32_135 : BitVec 32 := 0#32
  ![v148.toNat, 0]
@[reducible] def k0_t9_loop : Scf.Loop 32 :=
  let c0_i32_124 : BitVec 32 := 0#32
  let c256_i32_125 : BitVec 32 := 256#32
  let v138 : BitVec 32 := Scalar.addi c0_i32_124 c256_i32_125
  let c1_i32_126 : BitVec 32 := 1#32
  ⟨c0_i32_124, v138, c1_i32_126⟩
def k0_off36 (k0_t9 : Fin k0_t9_loop.trips) : Fin 1 → Nat :=
  let c0_i32_134 : BitVec 32 := 0#32
  let c0_i32_124 : BitVec 32 := 0#32
  let c1_i32_126 : BitVec 32 := 1#32
  let arg24 : BitVec 32 := Scf.iv c0_i32_124 c1_i32_126 k0_t9
  let c1_i32_133 : BitVec 32 := 1#32
  let v146 : BitVec 32 := Scalar.muli arg24 c1_i32_133
  let v147 : BitVec 32 := Scalar.addi c0_i32_134 v146
  let c16_i32 : BitVec 32 := 16#32
  let v148 : BitVec 32 := Scalar.muli v147 c16_i32
  let v149 : Index := Scalar.indexCast v148
  ![v149.toNat]

def k0_chk15 (v150 : IVec S16 32) (v151 : IVec S16 32) : Prop :=
  (∀ a x, ((![v151, v150] : Fin 2 → IVec S16 32) a x).toNat < S4x4096.size a)
theorem k0_idx15_inb : ∀ (v150 : IVec S16 32) (v151 : IVec S16 32) (k0_hw15 : k0_chk15 v150 v151), ∀ a x, ((![v151, v150] : Fin 2 → IVec S16 32) a x).toNat < S4x4096.size a := fun v150 v151 k0_hw15 => k0_hw15
def k0_off37 (k0_t9 : Fin k0_t9_loop.trips) : Fin 2 → Nat :=
  let c0_i32_137 : BitVec 32 := 0#32
  let v154 : Index := Scalar.indexCast c0_i32_137
  let c0_i32_134 : BitVec 32 := 0#32
  let c0_i32_124 : BitVec 32 := 0#32
  let c1_i32_126 : BitVec 32 := 1#32
  let arg24 : BitVec 32 := Scf.iv c0_i32_124 c1_i32_126 k0_t9
  let c1_i32_133 : BitVec 32 := 1#32
  let v146 : BitVec 32 := Scalar.muli arg24 c1_i32_133
  let v147 : BitVec 32 := Scalar.addi c0_i32_134 v146
  let c16_i32_136 : BitVec 32 := 16#32
  let v153 : BitVec 32 := Scalar.muli v147 c16_i32_136
  let v155 : Index := Scalar.indexCast v153
  ![0, v155.toNat]

def k0_chk16 (v150 : IVec S16 32) (v157 : IVec S16 32) : Prop :=
  (∀ a x, ((![v157, v150] : Fin 2 → IVec S16 32) a x).toNat < S4x4096.size a)
theorem k0_idx16_inb : ∀ (v150 : IVec S16 32) (v157 : IVec S16 32) (k0_hw16 : k0_chk16 v150 v157), ∀ a x, ((![v157, v150] : Fin 2 → IVec S16 32) a x).toNat < S4x4096.size a := fun v150 v157 k0_hw16 => k0_hw16
def k0_off38 (k0_t9 : Fin k0_t9_loop.trips) : Fin 2 → Nat :=
  let c1_i32_140 : BitVec 32 := 1#32
  let v160 : Index := Scalar.indexCast c1_i32_140
  let c0_i32_134 : BitVec 32 := 0#32
  let c0_i32_124 : BitVec 32 := 0#32
  let c1_i32_126 : BitVec 32 := 1#32
  let arg24 : BitVec 32 := Scf.iv c0_i32_124 c1_i32_126 k0_t9
  let c1_i32_133 : BitVec 32 := 1#32
  let v146 : BitVec 32 := Scalar.muli arg24 c1_i32_133
  let v147 : BitVec 32 := Scalar.addi c0_i32_134 v146
  let c16_i32_139 : BitVec 32 := 16#32
  let v159 : BitVec 32 := Scalar.muli v147 c16_i32_139
  let v161 : Index := Scalar.indexCast v159
  ![1, v161.toNat]
def k0_cond12 (k0_t1 : Fin k0_t1_loop.trips) : BitVec 1 :=
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c31_i32_131 : BitVec 32 := 31#32
  let v143 : BitVec 1 := Scalar.cmpi .slt v29 c31_i32_131
  let v144 : BitVec 32 := Scalar.extui v143
  let c0_i32_132 : BitVec 32 := 0#32
  let v145 : BitVec 1 := Scalar.cmpi .ne v144 c0_i32_132
  v145

def k0_off39 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_19 : BitVec 32 := 0#32
  let c0_i32_8 : BitVec 32 := 0#32
  let c1_i32 : BitVec 32 := 1#32
  let arg23 : BitVec 32 := Scf.iv c0_i32_8 c1_i32 k0_t1
  let c1_i32_18 : BitVec 32 := 1#32
  let v28 : BitVec 32 := Scalar.muli arg23 c1_i32_18
  let v29 : BitVec 32 := Scalar.addi c0_i32_19 v28
  let c4_i32_105 : BitVec 32 := 4#32
  let v117 : BitVec 32 := Scalar.muli v29 c4_i32_105
  let c3_i32 : BitVec 32 := 3#32
  let v118 : BitVec 32 := Scalar.addi v117 c3_i32
  let c4_i32_133 : BitVec 32 := 4#32
  let v146 : BitVec 32 := Scalar.addi v118 c4_i32_133
  let c4_i32_134 : BitVec 32 := 4#32
  let v147 : BitVec 32 := Scalar.muli v146 c4_i32_134
  let v148 : BitVec 32 := Scalar.addi v2 v147
  let c0_i32_135 : BitVec 32 := 0#32
  ![v148.toNat, 0]
def k0_off40 (i : grid0.Coords) (c504_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v16 : BitVec 32 := Scalar.addi v2 c504_i32
  let c0_i32_10 : BitVec 32 := 0#32
  ![v16.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x4096 : Shape := ⟨2, ![16384, 4096]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .i32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S1, .i32⟩
  | .hbm, ⟨11, _⟩ => ⟨S_, .i32⟩
  | .hbm, ⟨12, _⟩ => ⟨S4096x1, .i32⟩
  | .hbm, ⟨13, _⟩ => ⟨S4096x1, .i1⟩
  | .hbm, ⟨14, _⟩ => ⟨S1x1, .i32⟩
  | .hbm, ⟨15, _⟩ => ⟨S4096x1, .i32⟩
  | .hbm, ⟨16, _⟩ => ⟨S4096x1, .i1⟩
  | .hbm, ⟨17, _⟩ => ⟨S4096x1, .i1⟩
  | .hbm, ⟨18, _⟩ => ⟨S_, .i1⟩
  | .hbm, ⟨19, _⟩ => ⟨S4096, .i1⟩
  | .hbm, ⟨20, _⟩ => ⟨S16384x4096, .f32⟩
  | .hbm, ⟨21, _⟩ => ⟨S16384x4096, .i1⟩
  | .hbm, ⟨22, _⟩ => ⟨S_, .f32⟩
  | .hbm, ⟨23, _⟩ => ⟨S16384x4096, .f32⟩
  | .hbm, ⟨24, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Base.lean ====
/-
  The names the proof of the column permutation's kernel works with: the program as the launch theorem sees it, the
  resources it is proved over, the thread of one vector subcore, the three arrays, and the value the kernel leaves.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Transfers
public import Idealize.ShloMosaic.Lib.Pipeline.Kit
public import Idealize.ShloMosaic.Lib.ValueIdx
public import proofs.«01_k».proof.Proof.Gen.KernelIdeal
public import proofs.«01_k».proof.Proof.Gen.KernelIdeal.Skeleton

@[expose] public section

noncomputable section

namespace Cert.Proof.Perm

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2 ix1 eq_ix1)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are apart, none of them is a kernel's own, and no buffer of a SparseCore is shared by its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resources: the handshakes' rounds beside the transfers' counters -/

abbrev UH : Type := URounds (GSem nD τ sig) ℕ
abbrev UU : Type := UH × Counters
/-- The resource algebra of the whole proof. -/
abbrev MM (F : FTy → Type) : Type := MT nD τ sig (HIx 1) (Elt F) ℕ UU ℕ
/-- The handshakes' part of it. -/
abbrev EH : Emb UH (MM F) := embL
/-- The transfers' part of it. -/
abbrev EC : UEmb Counters (MM F) := countersEmb

/-! ## One vector subcore -/

abbrev cV (L : grid0.Coords) : Fin τ.nSC := (L 0).castLE hcore0
abbrev jV (L : grid0.Coords) : Fin τ.nSub := (L 1).castLE hsub0
/-- The thread of the vector subcore at grid point `L` of device `d`. -/
abbrev tile (d : Dev nD) (L : grid0.Coords) : Thread nD τ := V d (cV L) (jV L)

/-! ## The three arrays and the value -/

abbrev xLoc (d : Dev nD) : Loc nD τ sig := (SparseCore.T d).loc main_arg0
abbrev pLoc (d : Dev nD) : Loc nD τ sig := (SparseCore.T d).loc main_arg1
abbrev oLoc (d : Dev nD) : Loc nD τ sig := (SparseCore.T d).loc main_v0

/-- A word as a column number (a word out of range wraps, which the precondition excludes). -/
def col (w : BitVec 32) : Fin 4096 := ⟨w.toNat % 4096, Nat.mod_lt _ (by omega)⟩

/-- A word below the number of columns names that column. -/
theorem col_val {w : BitVec 32} (h : w.toNat < 4096) : (col w).val = w.toNat := Nat.mod_eq_of_lt h

/-- The rows of `x` with their columns taken in the order `p` lists: entry `(r, c)` is `x (r, p c)`. -/
def permuted (x : S16384x4096.Idx → Elt F .f32) (p : S4096.Idx → Elt F .i32) : S16384x4096.Idx → Elt F .f32 :=
  fun y => x (ix2 (y 0) (col (p (ix1 (y 1)))))

/-- Every entry of the list names a column. -/
def InRange (p : S4096.Idx → Elt F .i32) : Prop := ∀ j, BitVec.toNat (p j) < 4096

end Cert.Proof.Perm

end
-- ==== Proof.Holds.lean ====
/-
  A vector subcore's own buffer by what it reads: `Holds r v` is the buffer of the memref `r`, held outright, reading
  `v` through `r`. Below it, a load, an indexed load, a store and the two directions of a copy, each as a rule over it.
-/
module

public import proofs.«01_k».proof.Proof.Base

@[expose] public section

noncomputable section

namespace Cert.Proof.Perm

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (d : Dev nD) (L : grid0.Coords)

/-- The elements under the memref `r`, held outright by the subcore, reading `v`. -/
def Holds {s : Shape} {e : EltTy} (r : Memref sig .scVector .vmem s e) (v : s.Idx → Elt F e) : sProp 𝕄 :=
  iprop(∃ f : Buf (Elt F) (r.view.loc (tile d L)), ⌜r.view.read (Elt F) f = v⌝ ∗ r.view.loc (tile d L) ↦[r.view.set]{fullShare} f)

/-- The same, reading anything. -/
def HoldsAny {s : Shape} {e : EltTy} (r : Memref sig .scVector .vmem s e) : sProp 𝕄 :=
  iprop(∃ f : Buf (Elt F) (r.view.loc (tile d L)), r.view.loc (tile d L) ↦[r.view.set]{fullShare} f)

variable {s : Shape} {e : EltTy}

instance holds_storable (r : Memref sig .scVector .vmem s e) (v : s.Idx → Elt F e) :
    BI.Storable (upEmb : UEmb _ 𝕄) (Holds d L r v) := by unfold Holds; infer_instance
instance holdsAny_storable (r : Memref sig .scVector .vmem s e) :
    BI.Storable (upEmb : UEmb _ 𝕄) (HoldsAny (F := F) d L r) := by unfold HoldsAny; infer_instance

/-- A buffer that reads something reads anything. -/
theorem Holds.any (r : Memref sig .scVector .vmem s e) (v : s.Idx → Elt F e) : Holds d L r v ⊢ HoldsAny (F := F) d L r := by
  unfold Holds HoldsAny
  iintro ⟨%f, -, H⟩
  iexists f; iexact H

/-- A buffer that reads anything reads something. -/
theorem HoldsAny.some (r : Memref sig .scVector .vmem s e) : HoldsAny (F := F) d L r ⊢ iprop(∃ v, Holds d L r v) := by
  unfold Holds HoldsAny
  iintro ⟨%f, H⟩
  iexists _, f
  isplitr; · ipureintro; rfl
  iexact H

variable [FloatOps F]
variable {α : Type} {Q : α → sProp (MM F)}

/-- A load through the rectangle `r` gives the elements of `v` there. -/
theorem wp_load_holds {m : Memref sig .scVector .vmem s e} {r : LoadRect s} {hl : m.view.LoadsAt r} {v : s.Idx → Elt F e}
    {k : (r.shape.Idx → Elt F e) → Prog (TpuEff nD τ sig (Elt F) Λ₀ (tile d L).2) α} :
    Holds d L m v ⊢ iprop((Holds d L m v -∗ wp frame (wpE (defs₀ (F := F)) 𝒱₀ (tile d L) none) Set.univ (k fun x => v (r.idx x)) Q)
      -∗ wp frame (wpE (defs₀ (F := F)) 𝒱₀ (tile d L) none) Set.univ (.op (.load m r hl) k) Q) := by
  unfold Holds
  iintro ⟨%f, %hf, H⟩ Hk
  iapply (wp_load 𝒱₀ (tile d L) none Set.univ (View.setOn_subset_set _ _)) $$ H
  iintro H
  have hr : m.view.readAt (Elt F) r f = fun x => v (r.idx x) := by
    subst hf; rfl
  rw [hr]
  iapply Hk
  iexists f
  isplitr; · ipureintro; exact hf
  iexact H

/-- An indexed load gives the elements of `v` the indices name. -/
theorem wp_gather_holds {m : Memref sig .scVector .vmem s e} {t : Shape} {idxs : Fin s.rank → IVec t 32}
    {h : ∀ a x, (idxs a x).toNat < s.size a} {hl : m.view.Loads} {v : s.Idx → Elt F e}
    {k : Vec F t e → Prog (TpuEff nD τ sig (Elt F) Λ₀ (tile d L).2) α} :
    Holds d L m v ⊢ iprop((Holds d L m v -∗ wp frame (wpE (defs₀ (F := F)) 𝒱₀ (tile d L) none) Set.univ (k (loadIdx v idxs h)) Q)
      -∗ wp frame (wpE (defs₀ (F := F)) 𝒱₀ (tile d L) none) Set.univ (SparseCore.vectorLoadIdx m idxs h hl >>= k) Q) := by
  unfold Holds
  iintro ⟨%f, %hf, H⟩ Hk
  iapply (SparseCore.wp_vectorLoadIdx 𝒱₀ (tile d L) none Set.univ (base := m) (f := f) (q := fullShare) (S := m.view.set) (View.set_slice_subset _ _)) $$ H
  iintro H
  have hr : (m.access (.whole s)).read (Elt F) f = v := by
    subst hf; funext x
    exact congrArg (m.view.read (Elt F) f) (funext fun a => Fin.ext (by simp [Rect.whole]))
  rw [hr]
  iapply Hk
  iexists f
  isplitr; · ipureintro; exact hf
  iexact H

/-- A store of `w` through the rectangle `r`: the buffer reads `w` under the rectangle, and what it read elsewhere. -/
theorem wp_store_holds {m : Memref sig .scVector .vmem s e} {r : Rect s} {w : r.shape.Idx → Elt F e}
    {hx : (m.access r).Stores Finset.univ} {hm : (Finset.univ : Finset r.shape.Idx) = Finset.univ ∨ ∀ a, r.stride a = 1}
    {v : s.Idx → Elt F e} {k : PUnit → Prog (TpuEff nD τ sig (Elt F) Λ₀ (tile d L).2) α} :
    Holds d L m v ⊢ iprop((∀ v', ⌜(∀ x, v' (r.emb x) = w x) ∧ ∀ y, y ∉ r.set → v' y = v y⌝ -∗ Holds d L m v'
          -∗ wp frame (wpE (defs₀ (F := F)) 𝒱₀ (tile d L) none) Set.univ (k ⟨⟩) Q)
      -∗ wp frame (wpE (defs₀ (F := F)) 𝒱₀ (tile d L) none) Set.univ (.op (.store m r w Finset.univ hx hm) k) Q) := by
  unfold Holds
  iintro ⟨%f, %hf, H⟩ Hk
  iapply (wp_store 𝒱₀ (tile d L) none Set.univ (m := m) (r := r) (f := f) (S := m.view.set) (View.set_slice_subset _ _)) $$ H
  iintro H
  iapply Hk $$ %(m.view.read (Elt F) ((m.access r).write (Elt F) f w Finset.univ)) [] [H]
  · ipureintro
    refine ⟨fun x => View.read_slice_write_emb _ _ _ (Finset.mem_univ x), fun y hy => ?_⟩
    subst hf
    exact View.read_slice_write_of_not_mem _ _ _ _ (by rw [Rect.map_emb_univ]; exact hy)
  · iexists _
    isplitr; · ipureintro; rfl
    iexact H

/-! ## Copies -/

/-- The units a copy of the shape's elements credits, whatever semaphore it completes on. -/
abbrev credit {sp : Space} (m : Memref sig .scVector sp s e) : ℕ := m.view.dmaCredit

/-- A copy into the subcore's buffer `dst` from the elements of an array under `src`, held at a share: in flight, it is to
    bring the buffer back reading what `src` reads, and the share. -/
theorem wp_copyIn {sp : Space} {src : Memref sig .scVector sp s e} {dst : Memref sig .scVector .vmem s e} {sm : DmaSem sig}
    {hsrc : src.view.WordExact} {hdst : dst.view.WordExact} {hsem : DmaTarget.Typed (nD := nD) sp (SemLoc.dma sm) (.here (p := (tile d L).2) dst)}
    {q : PosShare TreeShare} {fs : Buf (Elt F) (src.view.loc (tile d L))} (hs : 0 < s.numel)
    {k : PUnit → Prog (TpuEff nD τ sig (Elt F) Λ₀ (tile d L).2) α} :
    iprop((src.view.loc (tile d L) ↦[src.view.set]{q} fs) ∗ HoldsAny (F := F) d L dst ∗ semVal (tile d L, SemLoc.dma sm) 0)
      ⊢ iprop((Transfers.Flight EC (tile d L) (.dma sm) none (credit dst)
            iprop(Holds d L dst (src.view.read (Elt F) fs) ∗ (src.view.loc (tile d L) ↦[src.view.set]{q} fs))
          -∗ wp frame (wpE (defs₀ (F := F)) 𝒱₀ (tile d L) none) Set.univ (k ⟨⟩) Q)
        -∗ wp frame (wpE (defs₀ (F := F)) 𝒱₀ (tile d L) none) Set.univ (.op (.enqueueDma src (.here dst) (.dma sm) hsrc hdst hsem) k) Q) := by
  unfold HoldsAny
  iintro ⟨Hs, ⟨%fd, Hd⟩, Hv⟩ Hk
  iapply (Transfers.wp_dmaLocal (EC (F := F)) 𝒱₀ (tile d L) none (via := .same) (fd := fd) none (credit dst) rfl (View.dmaCredit_pos _ hs) (Finset.Subset.refl _)) $$ [Hs Hd Hv]
  · isplitl [Hs]; · iexact Hs
    isplitl [Hd] <;> iassumption
  iintro HF
  iapply Hk
  iapply (Transfers.Flight_mono (c := tile d L) (EC (F := F)) (D' := iprop(Holds d L dst (src.view.read (Elt F) fs) ∗ (src.view.loc (tile d L) ↦[src.view.set]{q} fs))) ?hm) $$ HF
  case hm =>
    unfold Holds
    iintro ⟨Hd, Hs⟩
    isplitl [Hd]
    · iexists _
      isplitr
      rotate_left
      · iexact Hd
      · ipureintro; exact View.read_write_univ ..
    · iexact Hs

/-- A copy of the subcore's buffer `src`, reading `v`, onto elements of an array that `g` places at `v`: in flight, it is to
    bring those elements back at `g`, and the buffer. -/
theorem wp_copyOut {sp : Space} {src : Memref sig .scVector .vmem s e} {dst : Memref sig .scVector sp s e} {sm : DmaSem sig}
    {hsrc : src.view.WordExact} {hdst : dst.view.WordExact} {hsem : DmaTarget.Typed (nD := nD) .vmem (SemLoc.dma sm) (.here (p := (tile d L).2) dst)}
    {v : s.Idx → Elt F e} {fd g : Buf (Elt F) (dst.view.loc (tile d L))} (hs : 0 < s.numel) (hg : dst.view.read (Elt F) g = v)
    {k : PUnit → Prog (TpuEff nD τ sig (Elt F) Λ₀ (tile d L).2) α} :
    iprop(Holds d L src v ∗ (dst.view.loc (tile d L) ↦[dst.view.set]{fullShare} fd) ∗ semVal (tile d L, SemLoc.dma sm) 0)
      ⊢ iprop((Transfers.Flight EC (tile d L) (.dma sm) none (credit dst)
            iprop((dst.view.loc (tile d L) ↦[dst.view.set]{fullShare} g) ∗ HoldsAny (F := F) d L src)
          -∗ wp frame (wpE (defs₀ (F := F)) 𝒱₀ (tile d L) none) Set.univ (k ⟨⟩) Q)
        -∗ wp frame (wpE (defs₀ (F := F)) 𝒱₀ (tile d L) none) Set.univ (.op (.enqueueDma src (.here dst) (.dma sm) hsrc hdst hsem) k) Q) := by
  unfold Holds HoldsAny
  iintro ⟨⟨%fs, %hf, Hs⟩, Hd, Hv⟩ Hk
  iapply (Transfers.wp_dmaLocal (EC (F := F)) 𝒱₀ (tile d L) none (via := .same) (fs := fs) (fd := fd) none (credit dst) rfl (View.dmaCredit_pos _ hs) (Finset.Subset.refl _)) $$ [Hs Hd Hv]
  · isplitl [Hs]; · iexact Hs
    isplitl [Hd] <;> iassumption
  iintro HF
  iapply Hk
  have hw : ∀ i ∈ dst.view.set, dst.view.write (Elt F) fd ((ReadAs.same : ReadAs (Elt F) s e s e).apply (src.view.read (Elt F) fs)) Finset.univ i = g i := by
    intro i hi
    obtain ⟨x, -, rfl⟩ := Finset.mem_map.mp hi
    have h1 := congrFun (hg.trans hf.symm) x
    have h2 : dst.view.read (Elt F) (dst.view.write (Elt F) fd ((ReadAs.same : ReadAs (Elt F) s e s e).apply (src.view.read (Elt F) fs)) Finset.univ) x
        = src.view.read (Elt F) fs x := congrFun (View.read_write_univ ..) x
    rw [View.read_apply] at h1 h2
    exact (cast_inj _).mp (h2.trans h1.symm)
  rw [pointsTo_congr hw]
  iapply (Transfers.Flight_mono (c := tile d L) (EC (F := F)) (D' := iprop((dst.view.loc (tile d L) ↦[dst.view.set]{fullShare} g) ∗ ∃ f, src.view.loc (tile d L) ↦[src.view.set]{fullShare} f)) ?hm) $$ HF
  case hm =>
    iintro ⟨Hd, Hs⟩
    isplitl [Hd]; · iexact Hd
    iexists fs; iexact Hs

end Cert.Proof.Perm

end
-- ==== Proof.Gather.lean ====
/-
  The kernel's inner loop. The program has it eight times — once per half of each of the four input buffers — over
  different buffers and rows; `gatherLoop` is the one text all eight are, and `wp_gatherLoop` what it does: it leaves the
  output buffer reading two rows of the input buffer with their columns taken in the order of the list.
-/
module

public import proofs.«01_k».proof.Proof.Holds
public import Idealize.ShloMosaic.Lib.Pipeline.Value

@[expose] public section

noncomputable section

namespace Cert.Proof.Perm

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 eq_ix2 ix1 eq_ix1)

variable {F : FTy → Type} [FloatOps F]

/-! ## One row of one trip -/

/-- Sixteen elements of row `a` of the buffer `ib`, at the columns `vp` lists, stored into `ob` at `off`. -/
def rowProg (L : grid0.Coords) (ib : Memref sig .scVector .vmem S4x4096 .f32) (ob : Memref sig .scVector .vmem S2x4096 .f32)
    (vp : Vec F S16 .i32) (a : BitVec 32) (off : Fin 2 → Nat) (inb : ∀ x, off x + S1x16.size x ≤ S2x4096.size x) :
    Prog (TpuEff nD τ sig (Elt F) Λ₀ (.scVector ((L 0).castLE hcore0) ((L 1).castLE hsub0))) Unit := do
  have va : IVec S16 32 := broadcast S16 a
  have hw : k0_chk1 vp va := (← Prog.lift (TpuEff.assume (k0_chk1 vp va) (k0_chk1.dec vp va))).down
  let g : Vec F S16 .f32 ← SparseCore.vectorLoadIdx ib ![va, vp] (k0_idx1_inb vp va hw) (View.loads_vmem h_S4x4096)
  let _old : Vec F S1x16 .f32 ← Prog.lift (.load ob (Rect.unit (s := S2x4096) off S1x16.size inb).toLoadRect (View.loadsAt_vmem h_S1x16))
  Prog.lift (.store ob (Rect.unit (s := S2x4096) off S1x16.size inb) (shapeCast S1x16 g shapeCasts_S16_S1x16) Finset.univ (View.stores_vmem_bits_univ h_S1x16 rfl) (.inl rfl))

/-- One trip: sixteen entries of the list, then a row at `a0` and a row at `a1`. -/
def gatherBody (L : grid0.Coords) (pb : Memref sig .scVector .vmem S4096 .i32) (ib : Memref sig .scVector .vmem S4x4096 .f32)
    (ob : Memref sig .scVector .vmem S2x4096 .f32) (a0 a1 : BitVec 32) :
    Fin k0_t2_loop.trips → Unit → Prog (TpuEff nD τ sig (Elt F) Λ₀ (.scVector ((L 0).castLE hcore0) ((L 1).castLE hsub0))) Unit :=
  fun t _ => do
    let vp : Vec F S16 .i32 ← Prog.lift (.load pb (Rect.unit (s := S4096) (k0_off4 t) S16.size (k0_off4_inb t)).toLoadRect (View.loadsAt_vmem h_S16))
    rowProg L ib ob vp a0 (k0_off5 t) (k0_off5_inb t)
    rowProg L ib ob vp a1 (k0_off6 t) (k0_off6_inb t)
    pure ⟨⟩

/-- The inner loop. -/
def gatherLoop (L : grid0.Coords) (pb : Memref sig .scVector .vmem S4096 .i32) (ib : Memref sig .scVector .vmem S4x4096 .f32)
    (ob : Memref sig .scVector .vmem S2x4096 .f32) (a0 a1 : BitVec 32) :
    Prog (TpuEff nD τ sig (Elt F) Λ₀ (.scVector ((L 0).castLE hcore0) ((L 1).castLE hsub0))) Unit :=
  Scf.Loop.for k0_t2_loop k0_t2_ok ⟨⟩ (gatherBody L pb ib ob a0 a1)

/-! ## What the loop computes -/

/-- Row 0 is row `a0` and row 1 is row `a1` of `x`, columns in the order of `p`. -/
def twoRows (x : S4x4096.Idx → Elt F .f32) (p : S4096.Idx → Elt F .i32) (a0 a1 : BitVec 32) : S2x4096.Idx → Elt F .f32 :=
  fun y => x (ix2 ⟨(if (y 0).val = 0 then a0 else a1).toNat % 4, Nat.mod_lt _ (by omega)⟩ (col (p (ix1 (y 1)))))

theorem twoRows_zero (x : S4x4096.Idx → Elt F .f32) (p : S4096.Idx → Elt F .i32) (a0 a1 : BitVec 32) {y : S2x4096.Idx} (h : (y 0).val = 0) :
    twoRows x p a0 a1 y = x (ix2 ⟨a0.toNat % 4, Nat.mod_lt _ (by omega)⟩ (col (p (ix1 (y 1))))) := by
  unfold twoRows; simp only [if_pos h]

theorem twoRows_one (x : S4x4096.Idx → Elt F .f32) (p : S4096.Idx → Elt F .i32) (a0 a1 : BitVec 32) {y : S2x4096.Idx} (h : (y 0).val ≠ 0) :
    twoRows x p a0 a1 y = x (ix2 ⟨a1.toNat % 4, Nat.mod_lt _ (by omega)⟩ (col (p (ix1 (y 1))))) := by
  unfold twoRows; simp only [if_neg h]

variable (d : Dev nD) (L : grid0.Coords)
variable {α : Type} {Q : α → sProp (MM F)}

/-- One row of one trip: the sixteen elements stored are the named row's at the listed columns; all else is kept. -/
theorem wp_rowProg {ib : Memref sig .scVector .vmem S4x4096 .f32} {ob : Memref sig .scVector .vmem S2x4096 .f32}
    {vp : Vec F S16 .i32} {a : BitVec 32} {off : Fin 2 → Nat} {inb : ∀ x, off x + S1x16.size x ≤ S2x4096.size x}
    {x : S4x4096.Idx → Elt F .f32} {v : S2x4096.Idx → Elt F .f32} (ha : a.toNat < 4) (hvp : ∀ j, BitVec.toNat (vp j) < 4096)
    {r n : Nat} (hoff : off = ![r, n])
    {k : Unit → Prog (TpuEff nD τ sig (Elt F) Λ₀ (tile d L).2) α} :
    iprop(Holds d L ib x ∗ Holds d L ob v)
      ⊢ iprop((∀ v', ⌜∀ y : S2x4096.Idx, v' y = if h : (y 0).val = r ∧ n ≤ (y 1).val ∧ (y 1).val < n + 16
              then x (ix2 ⟨a.toNat % 4, Nat.mod_lt _ (by omega)⟩ (col (vp (ix1 ⟨(y 1).val - n, by omega⟩)))) else v y⌝
            -∗ (Holds d L ib x ∗ Holds d L ob v') -∗ wp frame (wpE (defs₀ (F := F)) 𝒱₀ (tile d L) none) Set.univ (k ⟨⟩) Q)
        -∗ wp frame (wpE (defs₀ (F := F)) 𝒱₀ (tile d L) none) Set.univ (rowProg L ib ob vp a off inb >>= k) Q) := by
  subst hoff
  have hchk : k0_chk1 vp (broadcast S16 a) := by
    intro z j
    match z with
    | ⟨0, _⟩ => exact ha
    | ⟨1, _⟩ => exact hvp j
  unfold rowProg
  iintro ⟨Hi, Ho⟩ Hk
  simp only [Prog.lift, Prog.bind_op, Prog.bind_ret, bind_assoc]
  rw [wp_assume_of 𝒱₀ (tile d L) none Set.univ hchk]
  iapply (wp_gather_holds d L) $$ Hi
  iintro Hi
  simp only [Prog.bind_op, Prog.bind_ret]
  iapply (wp_load_holds d L) $$ Ho
  iintro Ho
  simp only [Prog.bind_op, Prog.bind_ret]
  iapply (wp_store_holds d L) $$ Ho
  iintro %v' %hv Ho
  iapply Hk $$ %v' [] [Hi Ho]
  · ipureintro
    intro y
    split
    · rename_i h
      have e : y = (Rect.unit (s := S2x4096) ![r, n] S1x16.size inb).emb (ix2 (0 : Fin 1) (⟨(y 1).val - n, by omega⟩ : Fin 16)) := by
        funext z; apply Fin.ext
        rw [Rect.emb_apply]
        match z with
        | ⟨0, _⟩ => show (y 0).val = r + 1 * 0; omega
        | ⟨1, _⟩ => show (y 1).val = n + 1 * ((y 1).val - n); omega
      conv_lhs => rw [e]
      rw [hv.1, shapeCast_apply _ _ _ (ix1 (⟨(y 1).val - n, by omega⟩ : Fin 16)) (by
        rw [Shape.rowMajor_val_one, Shape.rowMajor_val_two]; show _ = 0 * 16 + _; simp)]
      show x _ = _
      refine congrArg x (funext fun z => Fin.ext ?_)
      match z with
      | ⟨0, _⟩ => show a.toNat = a.toNat % 4; omega
      | ⟨1, _⟩ => exact (col_val (hvp _)).symm
    · rename_i h
      refine hv.2 y fun hy => h ?_
      have h0 := (Rect.mem_set_unit.mp hy) 0
      have h1 := (Rect.mem_set_unit.mp hy) 1
      change r ≤ (y 0).val ∧ (y 0).val < r + 1 at h0
      change n ≤ (y 1).val ∧ (y 1).val < n + 16 at h1
      omega
  · isplitl [Hi] <;> iassumption

/-- The loop leaves `ob` reading the two rows; the list and `ib` are as they were. -/
theorem wp_gatherLoop {pb : Memref sig .scVector .vmem S4096 .i32} {ib : Memref sig .scVector .vmem S4x4096 .f32}
    {ob : Memref sig .scVector .vmem S2x4096 .f32} {a0 a1 : BitVec 32} {p : S4096.Idx → Elt F .i32} {x : S4x4096.Idx → Elt F .f32}
    (hp : InRange p) (h0 : a0.toNat < 4) (h1 : a1.toNat < 4)
    {k : Unit → Prog (TpuEff nD τ sig (Elt F) Λ₀ (tile d L).2) α} :
    iprop(Holds d L pb p ∗ Holds d L ib x ∗ HoldsAny (F := F) d L ob)
      ⊢ iprop((iprop(Holds d L pb p ∗ Holds d L ib x ∗ Holds d L ob (twoRows x p a0 a1))
            -∗ wp frame (wpE (defs₀ (F := F)) 𝒱₀ (tile d L) none) Set.univ (k ⟨⟩) Q)
        -∗ wp frame (wpE (defs₀ (F := F)) 𝒱₀ (tile d L) none) Set.univ (gatherLoop L pb ib ob a0 a1 >>= k) Q) := by
  let I : ℕ → Unit → sProp (MM F) := fun n _ => iprop(Holds d L pb p ∗ Holds d L ib x
    ∗ ∃ v, ⌜∀ y : S2x4096.Idx, (y 1).val < 16 * n → v y = twoRows x p a0 a1 y⌝ ∗ Holds d L ob v)
  have hbody : ∀ (t : Fin k0_t2_loop.trips) (acc : Unit), I t.val acc
      ⊢ wp frame (wpE (defs₀ (F := F)) 𝒱₀ (tile d L) none) Set.univ (gatherBody L pb ib ob a0 a1 t acc) (I (t.val + 1)) := by
    intro t _
    have ht : t.val < 256 := t.isLt
    unfold gatherBody
    simp only [Prog.lift, Prog.bind_op, Prog.bind_ret, I]
    iintro ⟨Hp, Hi, ⟨%v, %hv, Ho⟩⟩
    iapply (wp_load_holds d L) $$ Hp
    iintro Hp
    iapply (wp_rowProg d L h0 (fun j => hp _) (k0_off5_eq t)) $$ [Hi Ho]
    · isplitl [Hi] <;> iassumption
    iintro %v1 %hv1 ⟨Hi, Ho⟩
    iapply (wp_rowProg d L h1 (fun j => hp _) (k0_off6_eq t)) $$ [Hi Ho]
    · isplitl [Hi] <;> iassumption
    iintro %v2 %hv2 ⟨Hi, Ho⟩
    simp only [Prog.pure_eq_ret, wp_ret]
    imodintro
    isplitl [Hp]; · iexact Hp
    isplitl [Hi]; · iexact Hi
    iexists v2
    isplitr
    · ipureintro
      intro y hy
      have hidx : ∀ h : (y 1).val - 16 * t.val < 16, 16 * t.val ≤ (y 1).val →
          (Rect.unit (s := S4096) (k0_off4 t) S16.size (k0_off4_inb t)).toLoadRect.idx (ix1 ⟨(y 1).val - 16 * t.val, h⟩) = ix1 (y 1) := by
        intro h hle
        funext z; apply Fin.ext
        rw [LoadRect.idx_apply]
        match z with
        | ⟨0, _⟩ =>
          have e : k0_off4 t 0 = 16 * t.val := by rw [k0_off4_eq]; rfl
          show k0_off4 t 0 + 1 * ((y 1).val - 16 * t.val) = (y 1).val
          omega
      have hy0 : (y 0).val < 2 := (y 0).isLt
      rw [hv2 y, hv1 y]
      by_cases ht' : (y 1).val < 16 * t.val
      · rw [dif_neg (by omega), dif_neg (by omega), hv y ht']
      · rcases Nat.lt_or_ge (y 0).val 1 with h | h
        · rw [dif_neg (by omega), dif_pos (by omega), hidx _ (by omega), twoRows_zero x p a0 a1 (by omega)]; rfl
        · rw [dif_pos (by omega), hidx _ (by omega), twoRows_one x p a0 a1 (by omega)]; rfl
    · iexact Ho
  unfold gatherLoop
  iintro ⟨Hp, Hi, Ho⟩ Hk
  ihave Ho' := (HoldsAny.some d L ob) $$ Ho
  icases Ho' with ⟨%v, Ho⟩
  iapply (Scf.wp_for_bind frame (wpE (defs₀ (F := F)) 𝒱₀ (tile d L) none) Set.univ _ _ _ k0_t2_ok ⟨⟩ (gatherBody L pb ib ob a0 a1) I hbody) $$ [Hp Hi Ho]
  · simp only [I]
    isplitl [Hp]; · iexact Hp
    isplitl [Hi]; · iexact Hi
    iexists v
    isplitr; · ipureintro; intro y hy; omega
    iexact Ho
  simp only [I]
  iintro %_ ⟨Hp, Hi, ⟨%v', %hv', Ho⟩⟩
  iapply Hk
  isplitl [Hp]; · iexact Hp
  isplitl [Hi]; · iexact Hi
  have e : v' = twoRows x p a0 a1 := funext fun y => hv' y (by
    have : (y 1).val < 4096 := (y 1).isLt
    have e : Scf.trips k0_t2_loop.lb k0_t2_loop.ub k0_t2_loop.st = 256 := by decide
    rw [e]; omega)
  subst e
  iexact Ho

end Cert.Proof.Perm

end
-- ==== Proof.Program.lean ====
/-
  The kernel's program in pieces. A trip of the outer loop takes four input buffers in turn, and for each one does the
  same: wait for its rows, twice gather two of them into an output buffer and start that buffer's copy out, start the
  fetch of the buffer's next rows. `quarter` is that piece, its buffers, semaphores and windows left open; the printed
  trip is four of it (`trip_eq`).
-/
module

public import proofs.«01_k».proof.Proof.Gather

@[expose] public section

noncomputable section

namespace Cert.Proof.Perm

open Cert.KernelIdeal Cert.KernelIdeal.Gen
open Idealize.ShloMosaic
open Idealize.SL.Sem

variable {F : FTy → Type} [FloatOps F]

/-- A program of the vector subcore at grid point `L`. -/
abbrev TileProg (F : FTy → Type) (L : grid0.Coords) (α : Type) : Type 1 :=
  Prog (TpuEff nD τ sig (Elt F) Λ₀ (.scVector ((L 0).castLE hcore0) ((L 1).castLE hsub0))) α

/-- `a` when the bit `c` is set. -/
def whenBit {L : grid0.Coords} (c : BitVec 1) (a : c = 1#1 → TileProg F L Unit) : TileProg F L Unit :=
  if h : c = 1#1 then a h else pure ⟨⟩

/-- What follows a conditional piece follows each of its two cases. -/
theorem whenBit_bind {L : grid0.Coords} {α : Type} (c : BitVec 1) (a : c = 1#1 → TileProg F L Unit) (k : Unit → TileProg F L α) :
    (whenBit c a >>= k) = if h : c = 1#1 then a h >>= k else k ⟨⟩ := by
  unfold whenBit; split <;> rfl

/-- Four rows of an array from the offsets `f`, and two. -/
abbrev rows4 (m : Memref sig .scVector .hbm S16384x4096 .f32) (f : Fin 2 → Nat) (hf : ∀ a, f a + S4x4096.size a ≤ S16384x4096.size a) :
    Memref sig .scVector .hbm S4x4096 .f32 := m.slice (Rect.unit (s := S16384x4096) f S4x4096.size hf) (fun _ => rfl)
abbrev rows2 (m : Memref sig .scVector .hbm S16384x4096 .f32) (f : Fin 2 → Nat) (hf : ∀ a, f a + S2x4096.size a ≤ S16384x4096.size a) :
    Memref sig .scVector .hbm S2x4096 .f32 := m.slice (Rect.unit (s := S16384x4096) f S2x4096.size hf) (fun _ => rfl)

variable (L : grid0.Coords)

/-- Start the fetch of the rows `w` into `ib`; wait for it. -/
def startIn (w : Memref sig .scVector .hbm S4x4096 .f32) (ib : Memref sig .scVector .vmem S4x4096 .f32) (sm : DmaSem sig) : TileProg F L Unit :=
  Prog.lift (.enqueueDma w (.here ib) (.dma sm) (View.wordExact_bits rfl) (View.wordExact_bits rfl) ⟨Or.inl rfl, trivial⟩)
def waitIn (w : Memref sig .scVector .hbm S4x4096 .f32) (ib : Memref sig .scVector .vmem S4x4096 .f32) (sm : DmaSem sig) : TileProg F L Unit :=
  Prog.lift (.waitDma2 sm w ib (View.wordExact_bits rfl) (View.wordExact_bits rfl))
/-- Start the copy of `ob` out to the rows `w`; wait for it. -/
def startOut (ob : Memref sig .scVector .vmem S2x4096 .f32) (w : Memref sig .scVector .hbm S2x4096 .f32) (sm : DmaSem sig) : TileProg F L Unit :=
  Prog.lift (.enqueueDma ob (.here w) (.dma sm) (View.wordExact_bits rfl) (View.wordExact_bits rfl) ⟨Or.inl rfl, trivial⟩)
def waitOut (ob : Memref sig .scVector .vmem S2x4096 .f32) (w : Memref sig .scVector .hbm S2x4096 .f32) (sm : DmaSem sig) : TileProg F L Unit :=
  Prog.lift (.waitDma2 sm ob w (View.wordExact_bits rfl) (View.wordExact_bits rfl))

/-- If the bit `c` is set wait for `ob`'s earlier copy, gather rows `a0` and `a1` of `ib` into `ob`, start its copy out to the rows at `g`. -/
def half (arg4 : Memref sig .scVector .hbm S16384x4096 .f32) (pb : Memref sig .scVector .vmem S4096 .i32) (ib : Memref sig .scVector .vmem S4x4096 .f32)
    (ob : Memref sig .scVector .vmem S2x4096 .f32) (sm : DmaSem sig) (a0 a1 : BitVec 32)
    (c : BitVec 1) (f : Fin 2 → Nat) (hf : c = 1#1 → ∀ a, f a + S2x4096.size a ≤ S16384x4096.size a)
    (g : Fin 2 → Nat) (hg : ∀ a, g a + S2x4096.size a ≤ S16384x4096.size a) : TileProg F L Unit := do
  whenBit c fun h => waitOut L ob (rows2 arg4 f (hf h)) sm
  gatherLoop L pb ib ob a0 a1
  startOut L ob (rows2 arg4 g hg) sm

/-- One input buffer's turn in a trip. -/
def quarter (arg2 arg4 : Memref sig .scVector .hbm S16384x4096 .f32) (pb : Memref sig .scVector .vmem S4096 .i32) (ib : Memref sig .scVector .vmem S4x4096 .f32)
    (ob ob' : Memref sig .scVector .vmem S2x4096 .f32) (si so so' : DmaSem sig)
    (w : Fin 2 → Nat) (hw : ∀ a, w a + S4x4096.size a ≤ S16384x4096.size a)
    (c : BitVec 1) (f : Fin 2 → Nat) (hf : c = 1#1 → ∀ a, f a + S2x4096.size a ≤ S16384x4096.size a)
    (g : Fin 2 → Nat) (hg : ∀ a, g a + S2x4096.size a ≤ S16384x4096.size a)
    (c' : BitVec 1) (f' : Fin 2 → Nat) (hf' : c' = 1#1 → ∀ a, f' a + S2x4096.size a ≤ S16384x4096.size a)
    (g' : Fin 2 → Nat) (hg' : ∀ a, g' a + S2x4096.size a ≤ S16384x4096.size a)
    (cn : BitVec 1) (n : Fin 2 → Nat) (hn : cn = 1#1 → ∀ a, n a + S4x4096.size a ≤ S16384x4096.size a) : TileProg F L Unit := do
  waitIn L (rows4 arg2 w hw) ib si
  half L arg4 pb ib ob so 0#32 1#32 c f hf g hg
  half L arg4 pb ib ob' so' 2#32 3#32 c' f' hf' g' hg'
  whenBit cn fun h => startIn L (rows4 arg2 n (hn h)) ib si

section Printed

variable (arg2 : Memref sig .scVector .hbm S16384x4096 .f32) (harg2 : arg2.IsWhole) (arg3 : Memref sig .scVector .hbm S4096 .i32) (harg3 : arg3.IsWhole)
  (arg4 : Memref sig .scVector .hbm S16384x4096 .f32) (harg4 : arg4.IsWhole) (arg5 : Memref sig .scVector .vmem S4096 .i32) (harg5 : arg5.IsWhole)
  (arg6 : Memref sig .scVector .vmem S4x4096 .f32) (harg6 : arg6.IsWhole) (arg7 : Memref sig .scVector .vmem S4x4096 .f32) (harg7 : arg7.IsWhole)
  (arg8 : Memref sig .scVector .vmem S4x4096 .f32) (harg8 : arg8.IsWhole) (arg9 : Memref sig .scVector .vmem S4x4096 .f32) (harg9 : arg9.IsWhole)
  (arg10 : Memref sig .scVector .vmem S2x4096 .f32) (harg10 : arg10.IsWhole) (arg11 : Memref sig .scVector .vmem S2x4096 .f32) (harg11 : arg11.IsWhole)
  (arg12 : Memref sig .scVector .vmem S2x4096 .f32) (harg12 : arg12.IsWhole) (arg13 : Memref sig .scVector .vmem S2x4096 .f32) (harg13 : arg13.IsWhole)
  (arg14 arg15 arg16 arg17 arg18 arg19 arg20 arg21 arg22 : DmaSems sig S_) (v2 : BitVec 32) (t : Fin k0_t1_loop.trips)

set_option maxRecDepth 65536

/-- The printed trip's first part: to the second gather. -/
theorem part1_eq (u0 u1 : BitVec 32) : ∃ r : (Σ' (_ : BitVec 32), BitVec 32), k0_part1 (F := F) L arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 v2 u0 u1 t = (do
    waitIn L (rows4 arg2 (k0_off2 L t 0#32) (k0_off2_inb L t 0)) arg6 arg14.sem
    half L arg4 arg5 arg6 arg10 arg18.sem 0#32 1#32 (k0_cond1 t) (k0_off3 L t) (k0_off3_inb L t) (k0_off7 L t 0#32 0#32) (k0_off7_inb L t 0 0)
    whenBit (k0_cond2 t) fun h => waitOut L arg11 (rows2 arg4 (k0_off8 L t) (k0_off8_inb L t h)) arg19.sem
    gatherLoop L arg5 arg6 arg11 2#32 3#32
    pure r) := by
  rw [k0_part1_eq_skeleton]
  refine ⟨⟨Scalar.addi 0#32 (Scalar.muli (Scf.iv u0 u1 t.val) 1#32), Scalar.addi (Scalar.muli (Scalar.addi 0#32 (Scalar.muli (Scf.iv u0 u1 t.val) 1#32)) 4#32) 0#32⟩, ?_⟩
  unfold k0_part1_skel
  simp only [half, bind_assoc]
  simp only [whenBit_bind, bind_assoc, pure_bind]
  rfl

/-- From there to the first wait of the fourth output buffer. -/
theorem part2_eq (v29 v31 : BitVec 32) : ∃ r : (Σ' (_ : BitVec 32) (_ : BitVec 32), BitVec 32), k0_part2 (F := F) L arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 v2 t v29 v31 = (do
    startOut L arg11 (rows2 arg4 (k0_off7 L t 0#32 1#32) (k0_off7_inb L t 0 1)) arg19.sem
    whenBit (k0_cond3 t) fun h => startIn L (rows4 arg2 (k0_off12 L t) (k0_off12_inb L t h)) arg6 arg14.sem
    waitIn L (rows4 arg2 (k0_off2 L t 1#32) (k0_off2_inb L t 1)) arg7 arg15.sem
    half L arg4 arg5 arg7 arg12 arg20.sem 0#32 1#32 (k0_cond4 t) (k0_off13 L t) (k0_off13_inb L t) (k0_off7 L t 1#32 0#32) (k0_off7_inb L t 1 0)
    whenBit (k0_cond5 t) fun h => waitOut L arg13 (rows2 arg4 (k0_off17 L t) (k0_off17_inb L t h)) arg21.sem
    pure r) := by
  rw [k0_part2_eq_skeleton]
  refine ⟨⟨Scalar.addi (Scalar.muli v29 4#32) 1#32, Scalar.addi (Scalar.muli (Scalar.addi (Scalar.muli v29 4#32) 1#32) 2#32) 1#32, 0#32⟩, ?_⟩
  unfold k0_part2_skel
  simp only [half, bind_assoc]
  simp only [whenBit_bind, bind_assoc, pure_bind]
  rfl

/-- From there to the third buffer's first copy out. -/
theorem part3_eq (v29 v60 v76 u : BitVec 32) : ∃ r : (Σ' (_ : BitVec 32) (_ : BitVec 32), BitVec 32), k0_part3 (F := F) L arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 v2 t v29 v60 v76 u = (do
    gatherLoop L arg5 arg7 arg13 2#32 3#32
    startOut L arg13 (rows2 arg4 (k0_off7 L t 1#32 1#32) (k0_off7_inb L t 1 1)) arg21.sem
    whenBit (k0_cond6 t) fun h => startIn L (rows4 arg2 (k0_off21 L t) (k0_off21_inb L t h)) arg7 arg15.sem
    waitIn L (rows4 arg2 (k0_off2 L t 2#32) (k0_off2_inb L t 2)) arg8 arg16.sem
    half L arg4 arg5 arg8 arg10 arg18.sem 0#32 1#32 (k0_cond7 t) (k0_off22 L t) (k0_off22_inb L t) (k0_off7 L t 2#32 0#32) (k0_off7_inb L t 2 0)
    pure r) := by
  rw [k0_part3_eq_skeleton]
  refine ⟨⟨Scalar.addi (Scalar.muli v29 4#32) 2#32, Scalar.addi (Scalar.muli (Scalar.addi (Scalar.muli v29 4#32) 2#32) 2#32) 1#32,
    Scalar.extui (Scalar.cmpi .sge (Scalar.addi (Scalar.muli (Scalar.addi (Scalar.muli v29 4#32) 2#32) 2#32) 1#32) 4#32)⟩, ?_⟩
  unfold k0_part3_skel
  simp only [half, bind_assoc]
  simp only [whenBit_bind, bind_assoc, pure_bind]
  rfl

/-- From there to the fourth buffer's first copy out. -/
theorem part4_eq (v29 v89 v105 v107 : BitVec 32) : ∃ r : (Σ' (_ : BitVec 32), BitVec 32), k0_part4 (F := F) L arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 v2 t v29 v89 v105 v107 = (do
    whenBit (k0_cond8 t) fun h => waitOut L arg11 (rows2 arg4 (k0_off26 L t) (k0_off26_inb L t h)) arg19.sem
    gatherLoop L arg5 arg8 arg11 2#32 3#32
    startOut L arg11 (rows2 arg4 (k0_off7 L t 2#32 1#32) (k0_off7_inb L t 2 1)) arg19.sem
    whenBit (k0_cond9 t) fun h => startIn L (rows4 arg2 (k0_off30 L t) (k0_off30_inb L t h)) arg8 arg16.sem
    waitIn L (rows4 arg2 (k0_off2 L t 3#32) (k0_off2_inb L t 3)) arg9 arg17.sem
    half L arg4 arg5 arg9 arg12 arg20.sem 0#32 1#32 (k0_cond10 t) (k0_off31 L t) (k0_off31_inb L t) (k0_off7 L t 3#32 0#32) (k0_off7_inb L t 3 0)
    pure r) := by
  rw [k0_part4_eq_skeleton]
  refine ⟨⟨Scalar.addi (Scalar.muli v29 4#32) 3#32, 2#32⟩, ?_⟩
  unfold k0_part4_skel
  simp only [half, bind_assoc]
  simp only [whenBit_bind, bind_assoc, pure_bind]
  rfl

/-- A trip of the outer loop is four quarters. -/
theorem trip_eq : k0_t1_body (F := F) L arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 v2 t ⟨⟩ = (do
    quarter L arg2 arg4 arg5 arg6 arg10 arg11 arg14.sem arg18.sem arg19.sem (k0_off2 L t 0#32) (k0_off2_inb L t 0)
      (k0_cond1 t) (k0_off3 L t) (k0_off3_inb L t) (k0_off7 L t 0#32 0#32) (k0_off7_inb L t 0 0)
      (k0_cond2 t) (k0_off8 L t) (k0_off8_inb L t) (k0_off7 L t 0#32 1#32) (k0_off7_inb L t 0 1)
      (k0_cond3 t) (k0_off12 L t) (k0_off12_inb L t)
    quarter L arg2 arg4 arg5 arg7 arg12 arg13 arg15.sem arg20.sem arg21.sem (k0_off2 L t 1#32) (k0_off2_inb L t 1)
      (k0_cond4 t) (k0_off13 L t) (k0_off13_inb L t) (k0_off7 L t 1#32 0#32) (k0_off7_inb L t 1 0)
      (k0_cond5 t) (k0_off17 L t) (k0_off17_inb L t) (k0_off7 L t 1#32 1#32) (k0_off7_inb L t 1 1)
      (k0_cond6 t) (k0_off21 L t) (k0_off21_inb L t)
    quarter L arg2 arg4 arg5 arg8 arg10 arg11 arg16.sem arg18.sem arg19.sem (k0_off2 L t 2#32) (k0_off2_inb L t 2)
      (k0_cond7 t) (k0_off22 L t) (k0_off22_inb L t) (k0_off7 L t 2#32 0#32) (k0_off7_inb L t 2 0)
      (k0_cond8 t) (k0_off26 L t) (k0_off26_inb L t) (k0_off7 L t 2#32 1#32) (k0_off7_inb L t 2 1)
      (k0_cond9 t) (k0_off30 L t) (k0_off30_inb L t)
    quarter L arg2 arg4 arg5 arg9 arg12 arg13 arg17.sem arg20.sem arg21.sem (k0_off2 L t 3#32) (k0_off2_inb L t 3)
      (k0_cond10 t) (k0_off31 L t) (k0_off31_inb L t) (k0_off7 L t 3#32 0#32) (k0_off7_inb L t 3 0)
      (k0_cond11 t) (k0_off35 L t) (k0_off35_inb L t) (k0_off7 L t 3#32 1#32) (k0_off7_inb L t 3 1)
      (k0_cond12 t) (k0_off39 L t) (k0_off39_inb L t)
    pure ⟨⟩) := by
  obtain ⟨⟨a, b⟩, h1⟩ := part1_eq (F := F) L arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 v2 t 0#32 1#32
  obtain ⟨⟨a2, b2, e2⟩, h2⟩ := part2_eq (F := F) L arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 v2 t a b
  obtain ⟨⟨a3, b3, e3⟩, h3⟩ := part3_eq (F := F) L arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 v2 t a a2 b2 e2
  obtain ⟨⟨a4, b4⟩, h4⟩ := part4_eq (F := F) L arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 v2 t a a3 b3 e3
  simp only [k0_t1_body, h1, h2, h3, h4, bind_assoc, pure_bind, quarter, half]
  iterate 28 refine bind_congr fun _ => ?_
  simp only [whenBit_bind, bind_assoc, pure_bind]
  rfl

/-- The whole program: the first four fetches, the list's, the 32 trips, the last four waits. -/
theorem body_eq : ∃ w2, cc0__body (F := F) L arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 = (do
    startIn L (rows4 arg2 (k0_off1 L 0#32) (k0_off1_inb L 0)) arg6 arg14.sem
    startIn L (rows4 arg2 (k0_off1 L 4#32) (k0_off1_inb L 1)) arg7 arg15.sem
    startIn L (rows4 arg2 (k0_off1 L 8#32) (k0_off1_inb L 2)) arg8 arg16.sem
    startIn L (rows4 arg2 (k0_off1 L 12#32) (k0_off1_inb L 3)) arg9 arg17.sem
    Prog.lift (.enqueueDma arg3 (.here arg5) (.dma arg22.sem) harg3.wordExact harg5.wordExact ⟨Or.inl rfl, trivial⟩)
    Prog.lift (.waitDma2 arg22.sem arg3 arg5 harg3.wordExact harg5.wordExact)
    Scf.Loop.for k0_t1_loop k0_t1_ok ⟨⟩ (k0_t1_body L arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 w2)
    waitOut L arg10 (rows2 arg4 (k0_off40 L 504#32) (k0_off40_inb L 0)) arg18.sem
    waitOut L arg11 (rows2 arg4 (k0_off40 L 506#32) (k0_off40_inb L 1)) arg19.sem
    waitOut L arg12 (rows2 arg4 (k0_off40 L 508#32) (k0_off40_inb L 2)) arg20.sem
    waitOut L arg13 (rows2 arg4 (k0_off40 L 510#32) (k0_off40_inb L 3)) arg21.sem
    pure ⟨⟩) := by
  refine ⟨Scalar.muli (Scalar.addi (Scalar.muli (BitVec.ofNat 32 (L 1).val) 2#32) (BitVec.ofNat 32 (L 0).val)) 512#32, ?_⟩
  rw [cc0__body_eq_skeleton]
  unfold cc0__body_skel
  rw [k0_part5_eq_skeleton]
  unfold k0_part5_skel
  simp only [bind_assoc, pure_bind]
  rfl

end Printed

end Cert.Proof.Perm

end
-- ==== Proof.Slots.lean ====
/-
  What a vector subcore holds while it runs. For each input buffer: the fetch of its next four rows in flight (`InSt`).
  For each output buffer: its last copy out in flight, the blocks of two rows written so far and those still to write
  (`OutSt`). The four primitive pieces of the program move between these, and so does a quarter of a trip (`wp_quarter`).
-/
module

public import proofs.«01_k».proof.Proof.Program

@[expose] public section

noncomputable section

namespace Cert.Proof.Perm

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 eq_ix2 ix1 eq_ix1)

variable {F : FTy → Type} [FloatOps F]

/-! ## Rows -/

/-- Input and output as a vector subcore names them. -/
abbrev xV : Memref sig .scVector .hbm S16384x4096 .f32 := Memref.whole main_arg0_scv
abbrev pV : Memref sig .scVector .hbm S4096 .i32 := Memref.whole main_arg1_scv
abbrev oV : Memref sig .scVector .hbm S16384x4096 .f32 := Memref.whole main_v0_scv

/-- The elements of the `k` rows from row `n`. -/
def rows (n k : ℕ) : Finset S16384x4096.Idx := Finset.univ.filter fun i => n ≤ (i 0).val ∧ (i 0).val < n + k

theorem mem_rows {n k : ℕ} {i : S16384x4096.Idx} : i ∈ rows n k ↔ n ≤ (i 0).val ∧ (i 0).val < n + k := by simp [rows]

/-- The `k` rows from row `n` of an array, as an array of `k` rows. -/
def chunk {e : EltTy} (k : ℕ) (g : S16384x4096.Idx → Elt F e) (n : ℕ) : Shape.Idx ⟨2, ![k, 4096]⟩ → Elt F e :=
  fun y => g (ix2 ⟨(n + (y 0).val) % 16384, Nat.mod_lt _ (by omega)⟩ (y 1))

/-- The rectangle of `k` whole rows from row `n` is those rows. -/
theorem set_rect {k n : ℕ} {f : Fin 2 → ℕ} (e : f = ![n, 0]) (hf : ∀ a, f a + (![k, 4096] : Fin 2 → ℕ) a ≤ S16384x4096.size a) :
    (Rect.unit (s := S16384x4096) f ![k, 4096] hf).set = rows n k := by
  subst e
  ext i
  rw [Rect.mem_set_unit, mem_rows]
  constructor
  · intro h; exact h 0
  · intro h a
    match a with
    | ⟨0, _⟩ => exact h
    | ⟨1, _⟩ => exact ⟨Nat.zero_le _, by have := (i 1).isLt; show (i 1).val < 0 + 4096; change (i 1).val < 4096 at this; omega⟩

/-- Where its element `y` lies in the array. -/
theorem emb_rect {k n : ℕ} {f : Fin 2 → ℕ} (e : f = ![n, 0]) (hf : ∀ a, f a + (![k, 4096] : Fin 2 → ℕ) a ≤ S16384x4096.size a)
    (y : Shape.Idx ⟨2, ![k, 4096]⟩) :
    (Rect.unit (s := S16384x4096) f ![k, 4096] hf).emb y = ix2 ⟨(n + (y 0).val) % 16384, Nat.mod_lt _ (by omega)⟩ (y 1) := by
  subst e
  have h0 : n + k ≤ 16384 := hf 0
  have hy : (y 0).val < k := (y 0).isLt
  funext a; apply Fin.ext
  rw [Rect.emb_apply]
  match a with
  | ⟨0, _⟩ => show n + 1 * (y 0).val = (n + (y 0).val) % 16384; omega
  | ⟨1, _⟩ => show 0 + 1 * (y 1).val = (y 1).val; omega

variable (d : Dev nD) (L : grid0.Coords)

/-- The input's window from `![n, 0]`: the rows it covers and what it reads. -/
theorem set_in {f : Fin 2 → ℕ} {n : ℕ} (e : f = ![n, 0]) (hf : ∀ a, f a + S4x4096.size a ≤ S16384x4096.size a) :
    (rows4 xV f hf).view.set = rows n 4 := (View.set_slice_whole _ _).trans (set_rect e hf)
theorem read_in {f : Fin 2 → ℕ} {n : ℕ} (e : f = ![n, 0]) (hf : ∀ a, f a + S4x4096.size a ≤ S16384x4096.size a) (x : Buf (Elt F) (xLoc d)) :
    (rows4 xV f hf).view.read (Elt F) x = chunk (e := .f32) 4 x n := by
  funext y
  rw [View.read_apply]
  exact congrArg x (emb_rect e hf y)
/-- The output's likewise. -/
theorem set_out {f : Fin 2 → ℕ} {n : ℕ} (e : f = ![n, 0]) (hf : ∀ a, f a + S2x4096.size a ≤ S16384x4096.size a) :
    (rows2 oV f hf).view.set = rows n 2 := (View.set_slice_whole _ _).trans (set_rect e hf)
theorem read_out {f : Fin 2 → ℕ} {n : ℕ} (e : f = ![n, 0]) (hf : ∀ a, f a + S2x4096.size a ≤ S16384x4096.size a) (g : Buf (Elt F) (oLoc d)) :
    (rows2 oV f hf).view.read (Elt F) g = chunk (e := .f32) 2 g n := by
  funext y
  rw [View.read_apply]
  exact congrArg g (emb_rect e hf y)

/-- The two rows the inner loop gathers from a chunk of `x` are rows of the permuted array. -/
theorem twoRows_chunk (x : S16384x4096.Idx → Elt F .f32) (p : S4096.Idx → Elt F .i32) (n : ℕ) {a0 a1 : BitVec 32} {r : ℕ}
    (h0 : a0.toNat = r) (h1 : a1.toNat = r + 1) (hr : r + 1 < 4) :
    twoRows (chunk (e := .f32) 4 x n) p a0 a1 = chunk (e := .f32) 2 (permuted x p) (n + r) := by
  funext y
  have hy : (y 0).val < 2 := (y 0).isLt
  have key : ∀ a : BitVec 32, a.toNat = r + (y 0).val →
      chunk (e := .f32) 4 x n (ix2 ⟨a.toNat % 4, Nat.mod_lt _ (by omega)⟩ (col (p (ix1 (y 1))))) = chunk (e := .f32) 2 (permuted x p) (n + r) y := by
    intro a ha
    refine congrArg x (funext fun z => Fin.ext ?_)
    match z with
    | ⟨0, _⟩ => show (n + a.toNat % 4) % 16384 = (n + r + (y 0).val) % 16384; congr 1; omega
    | ⟨1, _⟩ => rfl
  rcases Nat.eq_zero_or_pos (y 0).val with h | h
  · rw [twoRows_zero _ _ _ _ h]; exact key a0 (by omega)
  · rw [twoRows_one _ _ _ _ (by omega)]; exact key a1 (by omega)

/-! ## Waiting -/

/-- What the subcore owes the handshakes (`O`), that it may wait all the same, and the waits it has done since `W`. -/
def Owe (O : CellTallies nD τ sig (HIx 1)) (W : Waits sig (HIx 1)) : sProp (MM F) :=
  iprop(Transfers.MayWaits (tile d L) none O ∗ ∃ W', ⌜∀ q ∈ W', q ∈ W ∨ q.2 = none⌝ ∗ owes (tile d L) O W')

variable {O : CellTallies nD τ sig (HIx 1)} {W : Waits sig (HIx 1)}
variable {α : Type} {Q : α → sProp (MM F)}

/-- A wait for a copy in flight gives what the copy brings, and its semaphore back at zero. -/
theorem wp_wait {sp sp' : Space} {s s' : Shape} {e e' : EltTy} {sm : DmaSem sig} {a : Memref sig (tile d L).2.kind sp' s' e'} {b : Memref sig .scVector sp s e}
    {ha : a.view.WordExact} {hb : b.view.WordExact} {N : ℕ} (hN : b.view.dmaCredit = N) {R : sProp (MM F)}
    {k : PUnit → Prog (TpuEff nD τ sig (Elt F) Λ₀ (tile d L).2) α} :
    iprop(Transfers.Flight EC (tile d L) (.dma sm) none N R ∗ Owe d L O W)
      ⊢ iprop((iprop(R ∗ semVal (tile d L, SemLoc.dma sm) 0 ∗ Owe d L O W) -∗ wp frame (wpE (defs₀ (F := F)) 𝒱₀ (tile d L) none) Set.univ (k ⟨⟩) Q)
        -∗ wp frame (wpE (defs₀ (F := F)) 𝒱₀ (tile d L) none) Set.univ (.op (.waitDma2 sm a b ha hb) k) Q) := by
  unfold Owe
  iintro ⟨HF, #Hm, ⟨%W', %hW, HO⟩⟩ Hk
  iapply (Transfers.wp_waitLocalO (EC (F := F)) 𝒱₀ (tile d L) none none hN (O := O) (W := W')) $$ [HF HO]
  · isplitl [HF]; · iexact HF
    isplitl [HO]; · iexact HO
    iapply (Transfers.MayWaits.elim (SemLoc.dma sm)); iexact Hm
  iintro ⟨HR, Hs, HO⟩
  iapply Hk
  isplitl [HR]; · iexact HR
  isplitl [Hs]; · iexact Hs
  isplitr; · iexact Hm
  iexists _
  isplitr
  rotate_left
  · iexact HO
  · ipureintro
    intro q hq
    rcases Finset.mem_insert.mp hq with rfl | hq
    · exact .inr rfl
    · exact hW q hq

/-! ## An input buffer -/

section In

variable (q : PosShare TreeShare) (x : Buf (Elt F) (xLoc d)) (ib : Memref sig .scVector .vmem S4x4096 .f32) (sm : DmaSem sig) (n : ℕ)

/-- Nothing in flight: the semaphore at zero, the buffer, and the input at a share. -/
def InIdle : sProp (MM F) := iprop(semVal (tile d L, SemLoc.dma sm) 0 ∗ HoldsAny (F := F) d L ib ∗ (xLoc d ↦{q} x))

/-- The four rows from row `n` in flight into the buffer; they alone are lent. -/
def InFly : sProp (MM F) :=
  iprop(Transfers.Flight EC (tile d L) (.dma sm) none (credit ib) iprop(Holds d L ib (chunk (e := .f32) 4 x n) ∗ (xLoc d ↦[rows n 4]{q} x))
    ∗ (xLoc d ↦[Finset.univ \ rows n 4]{q} x))

/-- Before trip `i`: the fetch for the trip, sixteen rows a trip from row `n`; after the last trip nothing. -/
def InSt (i : ℕ) : sProp (MM F) := if i < 32 then InFly d L q x ib sm (n + 16 * i) else InIdle d L q x ib sm

theorem inSt_lt {i : ℕ} (h : i < 32) : InSt d L q x ib sm n i = InFly d L q x ib sm (n + 16 * i) := by unfold InSt; exact if_pos h
theorem inSt_end : InSt d L q x ib sm n 32 = InIdle d L q x ib sm := by unfold InSt; exact if_neg (by omega)

/-- A start from idle. -/
theorem wp_startIn {f : Fin 2 → ℕ} {hf : ∀ a, f a + S4x4096.size a ≤ S16384x4096.size a} (e : f = ![n, 0])
    {k : PUnit → Prog (TpuEff nD τ sig (Elt F) Λ₀ (tile d L).2) α} :
    InIdle d L q x ib sm
      ⊢ iprop((InFly d L q x ib sm n -∗ wp frame (wpE (defs₀ (F := F)) 𝒱₀ (tile d L) none) Set.univ (k ⟨⟩) Q)
        -∗ wp frame (wpE (defs₀ (F := F)) 𝒱₀ (tile d L) none) Set.univ (startIn L (rows4 xV f hf) ib sm >>= k) Q) := by
  unfold InIdle InFly startIn
  simp only [Prog.lift, Prog.bind_op, Prog.bind_ret]
  iintro ⟨Hs, Hb, Hx⟩ Hk
  ihave Hx' := (pointsTo_split_subset (Finset.subset_univ (rows n 4))).1 $$ Hx
  icases Hx' with ⟨Hx, Hr⟩
  have hset := set_in e hf
  have hread := read_in d e hf x
  iapply (wp_copyIn d L (src := rows4 xV f hf) (q := q) (fs := x) (by decide)) $$ [Hx Hb Hs]
  · rw [hset]
    isplitl [Hx]; · iexact Hx
    isplitl [Hb] <;> iassumption
  rw [hset, hread]
  iintro HF
  iapply Hk
  isplitl [HF] <;> iassumption

/-- The wait: the buffer reads the rows; the share of the input is whole again. -/
theorem wp_waitIn {w : Memref sig .scVector .hbm S4x4096 .f32}
    {k : PUnit → Prog (TpuEff nD τ sig (Elt F) Λ₀ (tile d L).2) α} :
    iprop(InFly d L q x ib sm n ∗ Owe d L O W)
      ⊢ iprop((iprop(semVal (tile d L, SemLoc.dma sm) 0 ∗ Holds d L ib (chunk (e := .f32) 4 x n) ∗ (xLoc d ↦{q} x) ∗ Owe d L O W)
          -∗ wp frame (wpE (defs₀ (F := F)) 𝒱₀ (tile d L) none) Set.univ (k ⟨⟩) Q)
        -∗ wp frame (wpE (defs₀ (F := F)) 𝒱₀ (tile d L) none) Set.univ (waitIn L w ib sm >>= k) Q) := by
  unfold InFly waitIn
  simp only [Prog.lift, Prog.bind_op, Prog.bind_ret]
  iintro ⟨⟨HF, Hr⟩, HO⟩ Hk
  iapply (wp_wait d L rfl) $$ [HF HO]
  · isplitl [HF] <;> iassumption
  iintro ⟨⟨Hb, Hx⟩, Hs, HO⟩
  iapply Hk
  isplitl [Hs]; · iexact Hs
  isplitl [Hb]; · iexact Hb
  isplitl [Hx Hr]
  · iapply (pointsTo_split_subset (Finset.subset_univ (rows n 4))).2
    isplitl [Hx] <;> iassumption
  iexact HO

end In

/-- If the bit says there is a next trip, the fetch for it. -/
theorem wp_nextIn (q : PosShare TreeShare) (x : Buf (Elt F) (xLoc d)) (ib : Memref sig .scVector .vmem S4x4096 .f32) (sm : DmaSem sig) (n i : ℕ)
    {c : BitVec 1} {f : Fin 2 → ℕ} {hf : c = 1#1 → ∀ a, f a + S4x4096.size a ≤ S16384x4096.size a}
    (hc : c = 1#1 ↔ i < 32) (e : f = ![n + 16 * i, 0]) {k : PUnit → Prog (TpuEff nD τ sig (Elt F) Λ₀ (tile d L).2) α} :
    InIdle d L q x ib sm
      ⊢ iprop((InSt d L q x ib sm n i -∗ wp frame (wpE (defs₀ (F := F)) 𝒱₀ (tile d L) none) Set.univ (k ⟨⟩) Q)
        -∗ wp frame (wpE (defs₀ (F := F)) 𝒱₀ (tile d L) none) Set.univ (whenBit c (fun h => startIn L (rows4 xV f (hf h)) ib sm) >>= k) Q) := by
  rw [whenBit_bind]
  unfold InSt
  by_cases h : c = 1#1
  · rw [dif_pos h, if_pos (hc.mp h)]
    exact wp_startIn d L q x ib sm _ e
  · rw [dif_neg h, if_neg (fun h' => h (hc.mpr h'))]
    iintro H Hk
    iapply Hk; iexact H

/-! ## An output buffer -/

section Out

variable (g fo : Buf (Elt F) (oLoc d)) (ob : Memref sig .scVector .vmem S2x4096 .f32) (sm : DmaSem sig) (o : ℕ)

/-- The buffer's blocks of two rows, eight rows apart from row `o`: the first `k`, written; those from block `k` on, as they were. -/
def Written (k : ℕ) : sProp (MM F) := bigSep (Finset.range k) fun j => (oLoc d ↦[rows (o + 8 * j) 2]{fullShare} g)
def Unwritten (k : ℕ) : sProp (MM F) := bigSep (Finset.Ico k 64) fun j => (oLoc d ↦[rows (o + 8 * j) 2]{fullShare} fo)

/-- One more block written; the next block to write taken out. -/
theorem written_succ (k : ℕ) :
    (Written d g o (k + 1) : sProp (MM F)) = iprop((oLoc d ↦[rows (o + 8 * k) 2]{fullShare} g) ∗ Written d g o k) := by
  unfold Written
  rw [Finset.range_add_one, bigSep_insert Finset.notMem_range_self]; rfl
theorem unwritten_next {k : ℕ} (h : k < 64) :
    (Unwritten d fo o k : sProp (MM F)) = iprop((oLoc d ↦[rows (o + 8 * k) 2]{fullShare} fo) ∗ Unwritten d fo o (k + 1)) := by
  unfold Unwritten
  rw [← Finset.insert_Ico_add_one_left_eq_Ico h, bigSep_insert (by simp)]; rfl

/-- Nothing in flight after `k` blocks. -/
def OutIdle (k : ℕ) : sProp (MM F) :=
  iprop(semVal (tile d L, SemLoc.dma sm) 0 ∗ HoldsAny (F := F) d L ob ∗ Written d g o k ∗ Unwritten d fo o k)

/-- After `k` blocks were started: the last of them in flight. -/
def OutSt : ℕ → sProp (MM F)
  | 0 => OutIdle d L g fo ob sm o 0
  | k + 1 => iprop(Transfers.Flight EC (tile d L) (.dma sm) none (credit ob) iprop((oLoc d ↦[rows (o + 8 * k) 2]{fullShare} g) ∗ HoldsAny (F := F) d L ob)
      ∗ Written d g o k ∗ Unwritten d fo o (k + 1))

/-- The wait for block `k`. -/
theorem wp_waitOut {w : Memref sig .scVector .hbm S2x4096 .f32} (i : ℕ) {k : PUnit → Prog (TpuEff nD τ sig (Elt F) Λ₀ (tile d L).2) α} :
    iprop(OutSt d L g fo ob sm o (i + 1) ∗ Owe d L O W)
      ⊢ iprop((iprop(OutIdle d L g fo ob sm o (i + 1) ∗ Owe d L O W) -∗ wp frame (wpE (defs₀ (F := F)) 𝒱₀ (tile d L) none) Set.univ (k ⟨⟩) Q)
        -∗ wp frame (wpE (defs₀ (F := F)) 𝒱₀ (tile d L) none) Set.univ (waitOut L ob w sm >>= k) Q) := by
  unfold OutSt OutIdle waitOut
  simp only [Prog.lift, Prog.bind_op, Prog.bind_ret]
  iintro ⟨⟨HF, Hw, Hu⟩, HO⟩ Hk
  iapply (wp_wait d L rfl) $$ [HF HO]
  · isplitl [HF] <;> iassumption
  iintro ⟨⟨Ho, Hb⟩, Hs, HO⟩
  iapply Hk
  isplitr [HO]
  · isplitl [Hs]; · iexact Hs
    isplitl [Hb]; · iexact Hb
    isplitr [Hu]
    · rw [written_succ]
      isplitl [Ho] <;> iassumption
    · iexact Hu
  · iexact HO

/-- The wait made only if a block was started before. -/
theorem wp_whenWaitOut {c : BitVec 1} {f : Fin 2 → ℕ} {hf : c = 1#1 → ∀ a, f a + S2x4096.size a ≤ S16384x4096.size a} (i : ℕ) (hc : c = 1#1 ↔ 0 < i)
    {k : PUnit → Prog (TpuEff nD τ sig (Elt F) Λ₀ (tile d L).2) α} :
    iprop(OutSt d L g fo ob sm o i ∗ Owe d L O W)
      ⊢ iprop((iprop(OutIdle d L g fo ob sm o i ∗ Owe d L O W) -∗ wp frame (wpE (defs₀ (F := F)) 𝒱₀ (tile d L) none) Set.univ (k ⟨⟩) Q)
        -∗ wp frame (wpE (defs₀ (F := F)) 𝒱₀ (tile d L) none) Set.univ (whenBit c (fun h => waitOut L ob (rows2 oV f (hf h)) sm) >>= k) Q) := by
  rw [whenBit_bind]
  rcases i with _ | i
  · rw [dif_neg (fun h => absurd (hc.mp h) (by omega))]
    iintro H Hk
    iapply Hk
    unfold OutSt
    iexact H
  · rw [dif_pos (hc.mpr (by omega))]
    exact wp_waitOut d L g fo ob sm o i

/-- A half: with block `i` next and rows `r`, `r + 1` of the input buffer the block's rows, it starts block `i` at its final values. -/
theorem wp_half (x : Buf (Elt F) (xLoc d)) (p : S4096.Idx → Elt F .i32) (hp : InRange p) {pb : Memref sig .scVector .vmem S4096 .i32}
    {ib : Memref sig .scVector .vmem S4x4096 .f32} {a0 a1 : BitVec 32} {n r i : ℕ} (h0 : a0.toNat = r) (h1 : a1.toNat = r + 1) (hr : r + 1 < 4)
    {c : BitVec 1} {f : Fin 2 → ℕ} {hf : c = 1#1 → ∀ a, f a + S2x4096.size a ≤ S16384x4096.size a} (hc : c = 1#1 ↔ 0 < i)
    {h : Fin 2 → ℕ} {hh : ∀ a, h a + S2x4096.size a ≤ S16384x4096.size a} (e : h = ![o + 8 * i, 0]) (hn : o + 8 * i = n + r) (hi : i < 64)
    {k : PUnit → Prog (TpuEff nD τ sig (Elt F) Λ₀ (tile d L).2) α} :
    iprop(Holds d L pb p ∗ Holds d L ib (chunk (e := .f32) 4 x n) ∗ OutSt d L (permuted x p) fo ob sm o i ∗ Owe d L O W)
      ⊢ iprop((iprop(Holds d L pb p ∗ Holds d L ib (chunk (e := .f32) 4 x n) ∗ OutSt d L (permuted x p) fo ob sm o (i + 1) ∗ Owe d L O W)
          -∗ wp frame (wpE (defs₀ (F := F)) 𝒱₀ (tile d L) none) Set.univ (k ⟨⟩) Q)
        -∗ wp frame (wpE (defs₀ (F := F)) 𝒱₀ (tile d L) none) Set.univ (half L oV pb ib ob sm a0 a1 c f hf h hh >>= k) Q) := by
  unfold half
  simp only [bind_assoc]
  iintro ⟨Hp, Hi, Ho, HO⟩ Hk
  iapply (wp_whenWaitOut d L _ fo ob sm o i hc) $$ [Ho HO]
  · isplitl [Ho] <;> iassumption
  unfold OutIdle
  iintro ⟨⟨Hs, Hb, Hw, Hu⟩, HO⟩
  iapply (wp_gatherLoop d L hp (by omega) (by omega)) $$ [Hp Hi Hb]
  · isplitl [Hp]; · iexact Hp
    isplitl [Hi] <;> iassumption
  rw [twoRows_chunk x p n h0 h1 hr, ← hn]
  iintro ⟨Hp, Hi, Hb⟩
  have hset := set_out e hh
  have hread := read_out d e hh (permuted x p)
  ihave Hu := (Entails.of_eq (unwritten_next d fo o hi)) $$ Hu
  icases Hu with ⟨Hd, Hu⟩
  unfold startOut
  simp only [Prog.lift, Prog.bind_op, Prog.bind_ret]
  iapply (wp_copyOut d L (dst := rows2 oV h hh) (fd := fo) (g := permuted x p) (by decide) hread) $$ [Hb Hd Hs]
  · rw [hset]
    isplitl [Hb]; · iexact Hb
    isplitl [Hd] <;> iassumption
  rw [hset]
  iintro HF
  iapply Hk
  isplitl [Hp]; · iexact Hp
  isplitl [Hi]; · iexact Hi
  isplitr [HO]
  · unfold OutSt
    isplitl [HF]; · iexact HF
    isplitl [Hw] <;> iassumption
  · iexact HO

end Out

/-! ## A quarter of a trip -/

/-- The quarter of trip `i` over one input buffer and two output buffers: it takes the fetch for the trip, starts the next
    block of each of the two, and leaves the fetch for the next trip. -/
theorem wp_quarter (q : PosShare TreeShare) (x : Buf (Elt F) (xLoc d)) (p : S4096.Idx → Elt F .i32) (hp : InRange p) (fo : Buf (Elt F) (oLoc d))
    {pb : Memref sig .scVector .vmem S4096 .i32} {ib : Memref sig .scVector .vmem S4x4096 .f32} {ob ob' : Memref sig .scVector .vmem S2x4096 .f32}
    {si so so' : DmaSem sig} {n o o' i j : ℕ} (hi : i < 32) (hj : j < 64) (ho : o + 8 * j = n + 16 * i) (ho' : o' + 8 * j = n + 16 * i + 2)
    {w : Fin 2 → ℕ} {hw : ∀ a, w a + S4x4096.size a ≤ S16384x4096.size a}
    {c : BitVec 1} {f : Fin 2 → ℕ} {hf : c = 1#1 → ∀ a, f a + S2x4096.size a ≤ S16384x4096.size a} (hc : c = 1#1 ↔ 0 < j)
    {h : Fin 2 → ℕ} {hh : ∀ a, h a + S2x4096.size a ≤ S16384x4096.size a} (eh : h = ![o + 8 * j, 0])
    {c' : BitVec 1} {f' : Fin 2 → ℕ} {hf' : c' = 1#1 → ∀ a, f' a + S2x4096.size a ≤ S16384x4096.size a} (hc' : c' = 1#1 ↔ 0 < j)
    {h' : Fin 2 → ℕ} {hh' : ∀ a, h' a + S2x4096.size a ≤ S16384x4096.size a} (eh' : h' = ![o' + 8 * j, 0])
    {cn : BitVec 1} {v : Fin 2 → ℕ} {hv : cn = 1#1 → ∀ a, v a + S4x4096.size a ≤ S16384x4096.size a} (hcn : cn = 1#1 ↔ i + 1 < 32)
    (ev : v = ![n + 16 * (i + 1), 0]) {k : PUnit → Prog (TpuEff nD τ sig (Elt F) Λ₀ (tile d L).2) α} :
    iprop(Holds d L pb p ∗ InSt d L q x ib si n i ∗ OutSt d L (permuted x p) fo ob so o j ∗ OutSt d L (permuted x p) fo ob' so' o' j ∗ Owe d L O W)
      ⊢ iprop((iprop(Holds d L pb p ∗ InSt d L q x ib si n (i + 1) ∗ OutSt d L (permuted x p) fo ob so o (j + 1)
              ∗ OutSt d L (permuted x p) fo ob' so' o' (j + 1) ∗ Owe d L O W)
          -∗ wp frame (wpE (defs₀ (F := F)) 𝒱₀ (tile d L) none) Set.univ (k ⟨⟩) Q)
        -∗ wp frame (wpE (defs₀ (F := F)) 𝒱₀ (tile d L) none) Set.univ
          (quarter L xV oV pb ib ob ob' si so so' w hw c f hf h hh c' f' hf' h' hh' cn v hv >>= k) Q) := by
  unfold quarter
  simp only [bind_assoc]
  iintro ⟨Hp, Hi, Ho, Ho', HO⟩ Hk
  ihave Hi := (Entails.of_eq (inSt_lt d L q x ib si n hi)) $$ Hi
  iapply (wp_waitIn d L q x ib si _) $$ [Hi HO]
  · isplitl [Hi] <;> iassumption
  iintro ⟨Hs, Hb, Hx, HO⟩
  iapply (wp_half d L fo ob so o x p hp (r := 0) rfl rfl (by omega) hc eh ho hj) $$ [Hp Hb Ho HO]
  · isplitl [Hp]; · iexact Hp
    isplitl [Hb]; · iexact Hb
    isplitl [Ho] <;> iassumption
  iintro ⟨Hp, Hb, Ho, HO⟩
  iapply (wp_half d L fo ob' so' o' x p hp (r := 2) rfl rfl (by omega) hc' eh' ho' hj) $$ [Hp Hb Ho' HO]
  · isplitl [Hp]; · iexact Hp
    isplitl [Hb]; · iexact Hb
    isplitl [Ho'] <;> iassumption
  iintro ⟨Hp, Hb, Ho', HO⟩
  iapply (wp_nextIn d L q x ib si n (i + 1) hcn ev) $$ [Hs Hb Hx]
  · unfold InIdle
    isplitl [Hs]; · iexact Hs
    isplitl [Hb]; · iapply (Holds.any d L ib _); iexact Hb
    iexact Hx
  iintro Hi
  iapply Hk
  isplitl [Hp]; · iexact Hp
  isplitl [Hi]; · iexact Hi
  isplitl [Ho]; · iexact Ho
  isplitl [Ho'] <;> iassumption

end Cert.Proof.Perm

end
-- ==== Proof.Body.lean ====
/-
  One vector subcore's whole run: it is handed shares of the two inputs, its 512 rows of the output, its buffers and its
  semaphores, and gives all of them back, the rows of the output at their final values.
-/
module

public import proofs.«01_k».proof.Proof.Slots

@[expose] public section

noncomputable section

namespace Cert.Proof.Perm

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 eq_ix2 ix1 eq_ix1)

variable {F : FTy → Type} [FloatOps F]

/-- The list's buffer, the four input buffers, the four output buffers. -/
abbrev pBuf : Memref sig .scVector .vmem S4096 .i32 := Memref.whole cc0_scratch0
abbrev in0 : Memref sig .scVector .vmem S4x4096 .f32 := Memref.whole cc0_scratch1
abbrev in1 : Memref sig .scVector .vmem S4x4096 .f32 := Memref.whole cc0_scratch2
abbrev in2 : Memref sig .scVector .vmem S4x4096 .f32 := Memref.whole cc0_scratch3
abbrev in3 : Memref sig .scVector .vmem S4x4096 .f32 := Memref.whole cc0_scratch4
abbrev ot0 : Memref sig .scVector .vmem S2x4096 .f32 := Memref.whole cc0_scratch5
abbrev ot1 : Memref sig .scVector .vmem S2x4096 .f32 := Memref.whole cc0_scratch6
abbrev ot2 : Memref sig .scVector .vmem S2x4096 .f32 := Memref.whole cc0_scratch7
abbrev ot3 : Memref sig .scVector .vmem S2x4096 .f32 := Memref.whole cc0_scratch8

/-- The kernel over them. -/
abbrev tileProg (L : grid0.Coords) : TileProg F L PUnit :=
  cc0__body L xV (Memref.isWhole_whole _) pV (Memref.isWhole_whole _) oV (Memref.isWhole_whole _)
      pBuf (Memref.isWhole_whole _) in0 (Memref.isWhole_whole _) in1 (Memref.isWhole_whole _) in2 (Memref.isWhole_whole _) in3 (Memref.isWhole_whole _) ot0 (Memref.isWhole_whole _) ot1 (Memref.isWhole_whole _) ot2 (Memref.isWhole_whole _) ot3 (Memref.isWhole_whole _)
      cc0_scratch9 cc0_scratch10 cc0_scratch11 cc0_scratch12 cc0_scratch13 cc0_scratch14 cc0_scratch15 cc0_scratch16 cc0_scratch17

variable (d : Dev nD) (L : grid0.Coords)

/-- The first of the subcore's 512 rows. -/
def base : ℕ := 1024 * (L 1).val + 512 * (L 0).val

variable (q : Fin 4 → PosShare TreeShare) (x : Buf (Elt F) (xLoc d)) (p : S4096.Idx → Elt F .i32) (fo : Buf (Elt F) (oLoc d))
variable (O : CellTallies nD τ sig (HIx 1)) (W : Waits sig (HIx 1))

/-- Before trip `i`: the list, the four fetches for the trip, and each output buffer after `2 i` blocks. -/
def Trips (i : ℕ) : sProp (MM F) :=
  iprop(Holds d L pBuf p
    ∗ (InSt d L (q 0) x in0 cc0_scratch9.sem (base L) i ∗ InSt d L (q 1) x in1 cc0_scratch10.sem (base L + 4) i
      ∗ InSt d L (q 2) x in2 cc0_scratch11.sem (base L + 8) i ∗ InSt d L (q 3) x in3 cc0_scratch12.sem (base L + 12) i)
    ∗ (OutSt d L (permuted x p) fo ot0 cc0_scratch13.sem (base L) (2 * i) ∗ OutSt d L (permuted x p) fo ot1 cc0_scratch14.sem (base L + 2) (2 * i)
      ∗ OutSt d L (permuted x p) fo ot2 cc0_scratch15.sem (base L + 4) (2 * i) ∗ OutSt d L (permuted x p) fo ot3 cc0_scratch16.sem (base L + 6) (2 * i))
    ∗ Owe d L O W)

/-- Two offsets agree if their rows do. -/
theorem off_row {f : Fin 2 → ℕ} {a b : ℕ} (h : f = ![a, 0]) (e : a = b) : f = ![b, 0] := e ▸ h

/-- Which waits and which fetches a trip makes. -/
theorem conds (t : Fin k0_t1_loop.trips) :
    ((k0_cond1 t = 1#1 ↔ 0 < t.val) ∧ (k0_cond2 t = 1#1 ↔ 0 < t.val) ∧ (k0_cond4 t = 1#1 ↔ 0 < t.val) ∧ (k0_cond5 t = 1#1 ↔ 0 < t.val))
    ∧ (k0_cond7 t = 1#1 ∧ k0_cond8 t = 1#1 ∧ k0_cond10 t = 1#1 ∧ k0_cond11 t = 1#1)
    ∧ ((k0_cond3 t = 1#1 ↔ t.val + 1 < 32) ∧ (k0_cond6 t = 1#1 ↔ t.val + 1 < 32) ∧ (k0_cond9 t = 1#1 ↔ t.val + 1 < 32) ∧ (k0_cond12 t = 1#1 ↔ t.val + 1 < 32)) := by
  revert t; decide +kernel

/-- A trip. -/
theorem wp_trip (hp : InRange p) (v2 : BitVec 32) (t : Fin k0_t1_loop.trips) (acc : Unit) :
    Trips d L q x p fo O W t.val
      ⊢ wp frame (wpE (defs₀ (F := F)) 𝒱₀ (tile d L) none) Set.univ (k0_t1_body L xV (Memref.isWhole_whole _) pV (Memref.isWhole_whole _) oV (Memref.isWhole_whole _)
      pBuf (Memref.isWhole_whole _) in0 (Memref.isWhole_whole _) in1 (Memref.isWhole_whole _) in2 (Memref.isWhole_whole _) in3 (Memref.isWhole_whole _) ot0 (Memref.isWhole_whole _) ot1 (Memref.isWhole_whole _) ot2 (Memref.isWhole_whole _) ot3 (Memref.isWhole_whole _)
      cc0_scratch9 cc0_scratch10 cc0_scratch11 cc0_scratch12 cc0_scratch13 cc0_scratch14 cc0_scratch15 cc0_scratch16 cc0_scratch17 v2 t acc)
          fun _ => Trips d L q x p fo O W (t.val + 1) := by
  have ht : t.val < 32 := t.isLt
  obtain ⟨⟨c1, c2, c4, c5⟩, ⟨c7, c8, c10, c11⟩, c3, c6, c9, c12⟩ := conds t
  have hb : base L = 1024 * (L 1).val + 512 * (L 0).val := rfl
  have e2 : 2 * (t.val + 1) = 2 * t.val + 1 + 1 := by omega
  rw [trip_eq]
  unfold Trips
  rw [e2]
  iintro ⟨Hp, ⟨Hi0, Hi1, Hi2, Hi3⟩, ⟨Ho0, Ho1, Ho2, Ho3⟩, HO⟩
  iapply (wp_quarter d L (q 0) x p hp fo (n := base L) (o := base L) (o' := base L + 2) (i := t.val) (j := 2 * t.val) ht (by omega) (by omega) (by omega)
    (c1.trans (by omega)) (off_row (k0_off7_eq L t 0 0) (by simp; omega)) (c2.trans (by omega)) (off_row (k0_off7_eq L t 0 1) (by simp; omega))
    c3 (off_row (k0_off12_eq L t) (by omega))) $$ [Hp Hi0 Ho0 Ho1 HO]
  · isplitl [Hp]; · iexact Hp
    isplitl [Hi0]; · iexact Hi0
    isplitl [Ho0]; · iexact Ho0
    isplitl [Ho1] <;> iassumption
  iintro ⟨Hp, Hi0, Ho0, Ho1, HO⟩
  iapply (wp_quarter d L (q 1) x p hp fo (n := base L + 4) (o := base L + 4) (o' := base L + 6) (i := t.val) (j := 2 * t.val) ht (by omega) (by omega) (by omega)
    (c4.trans (by omega)) (off_row (k0_off7_eq L t 1 0) (by simp; omega)) (c5.trans (by omega)) (off_row (k0_off7_eq L t 1 1) (by simp; omega))
    c6 (off_row (k0_off21_eq L t) (by omega))) $$ [Hp Hi1 Ho2 Ho3 HO]
  · isplitl [Hp]; · iexact Hp
    isplitl [Hi1]; · iexact Hi1
    isplitl [Ho2]; · iexact Ho2
    isplitl [Ho3] <;> iassumption
  iintro ⟨Hp, Hi1, Ho2, Ho3, HO⟩
  iapply (wp_quarter d L (q 2) x p hp fo (n := base L + 8) (o := base L) (o' := base L + 2) (i := t.val) (j := 2 * t.val + 1) ht (by omega) (by omega) (by omega)
    ⟨fun _ => by omega, fun _ => c7⟩ (off_row (k0_off7_eq L t 2 0) (by simp; omega)) ⟨fun _ => by omega, fun _ => c8⟩ (off_row (k0_off7_eq L t 2 1) (by simp; omega))
    c9 (off_row (k0_off30_eq L t) (by omega))) $$ [Hp Hi2 Ho0 Ho1 HO]
  · isplitl [Hp]; · iexact Hp
    isplitl [Hi2]; · iexact Hi2
    isplitl [Ho0]; · iexact Ho0
    isplitl [Ho1] <;> iassumption
  iintro ⟨Hp, Hi2, Ho0, Ho1, HO⟩
  iapply (wp_quarter d L (q 3) x p hp fo (n := base L + 12) (o := base L + 4) (o' := base L + 6) (i := t.val) (j := 2 * t.val + 1) ht (by omega) (by omega) (by omega)
    ⟨fun _ => by omega, fun _ => c10⟩ (off_row (k0_off7_eq L t 3 0) (by simp; omega)) ⟨fun _ => by omega, fun _ => c11⟩ (off_row (k0_off7_eq L t 3 1) (by simp; omega))
    c12 (off_row (k0_off39_eq L t) (by omega))) $$ [Hp Hi3 Ho2 Ho3 HO]
  · isplitl [Hp]; · iexact Hp
    isplitl [Hi3]; · iexact Hi3
    isplitl [Ho2]; · iexact Ho2
    isplitl [Ho3] <;> iassumption
  iintro ⟨Hp, Hi3, Ho2, Ho3, HO⟩
  rw [Prog.pure_eq_ret, wp_ret]
  imodintro
  isplitl [Hp]; · iexact Hp
  isplitl [Hi0 Hi1 Hi2 Hi3]
  · isplitl [Hi0]; · iexact Hi0
    isplitl [Hi1]; · iexact Hi1
    isplitl [Hi2] <;> iassumption
  isplitl [Ho0 Ho1 Ho2 Ho3]
  · isplitl [Ho0]; · iexact Ho0
    isplitl [Ho1]; · iexact Ho1
    isplitl [Ho2] <;> iassumption
  iexact HO

/-- What the subcore is handed beside its rows of the output, and gives back: shares of the inputs, its buffers, its semaphores at zero. -/
def Kit (qp : PosShare TreeShare) : sProp (MM F) :=
  iprop(((xLoc d ↦{q 0} x) ∗ (xLoc d ↦{q 1} x) ∗ (xLoc d ↦{q 2} x) ∗ (xLoc d ↦{q 3} x) ∗ (pLoc d ↦{qp} p))
    ∗ (HoldsAny (F := F) d L pBuf ∗ HoldsAny (F := F) d L in0 ∗ HoldsAny (F := F) d L in1 ∗ HoldsAny (F := F) d L in2 ∗ HoldsAny (F := F) d L in3
      ∗ HoldsAny (F := F) d L ot0 ∗ HoldsAny (F := F) d L ot1 ∗ HoldsAny (F := F) d L ot2 ∗ HoldsAny (F := F) d L ot3)
    ∗ (semVal (tile d L, SemLoc.dma cc0_scratch9.sem) 0 ∗ semVal (tile d L, SemLoc.dma cc0_scratch10.sem) 0
      ∗ semVal (tile d L, SemLoc.dma cc0_scratch11.sem) 0 ∗ semVal (tile d L, SemLoc.dma cc0_scratch12.sem) 0
      ∗ semVal (tile d L, SemLoc.dma cc0_scratch13.sem) 0 ∗ semVal (tile d L, SemLoc.dma cc0_scratch14.sem) 0
      ∗ semVal (tile d L, SemLoc.dma cc0_scratch15.sem) 0 ∗ semVal (tile d L, SemLoc.dma cc0_scratch16.sem) 0
      ∗ semVal (tile d L, SemLoc.dma cc0_scratch17.sem) 0))

/-- The subcore's rows of the output at `g`: 64 blocks for each of the four output buffers. -/
def OutRows (g : Buf (Elt F) (oLoc d)) : sProp (MM F) :=
  iprop(Written d g (base L) 64 ∗ Written d g (base L + 2) 64 ∗ Written d g (base L + 4) 64 ∗ Written d g (base L + 6) 64)

/-- Nothing written before block 0, nothing left after block 64. -/
theorem written_zero (g : Buf (Elt F) (oLoc d)) (o : ℕ) : (Written d g o 0 : sProp (MM F)) = iprop(emp) := by
  unfold Written; rw [Finset.range_zero, bigSep_empty]; rfl
theorem unwritten_zero (o : ℕ) : (Unwritten d fo o 0 : sProp (MM F)) = Written d fo o 64 := by
  unfold Unwritten Written; rw [Finset.range_eq_Ico]

/-- An output buffer before its first block. -/
theorem outSt_zero (g : Buf (Elt F) (oLoc d)) (ob : Memref sig .scVector .vmem S2x4096 .f32) (sm : DmaSem sig) (o : ℕ) :
    iprop(semVal (tile d L, SemLoc.dma sm) 0 ∗ HoldsAny (F := F) d L ob ∗ Written d fo o 64) ⊢ OutSt d L g fo ob sm o 0 := by
  unfold OutSt OutIdle
  rw [written_zero, unwritten_zero]
  iintro ⟨Hs, Hb, Hu⟩
  isplitl [Hs]; · iexact Hs
  isplitl [Hb]; · iexact Hb
  isplitr; · iempintro
  iexact Hu

/-- The fetch of the list. -/
theorem wp_list (qp : PosShare TreeShare) {k : PUnit → Prog (TpuEff nD τ sig (Elt F) Λ₀ (tile d L).2) PUnit} {Q : PUnit → sProp (MM F)} {sm : DmaSem sig}
    {h1 h1' : (pV : Memref sig .scVector .hbm S4096 .i32).view.WordExact} {h2 h2' : pBuf.view.WordExact}
    {h3 : DmaTarget.Typed (nD := nD) .hbm (SemLoc.dma sm) (.here (p := (tile d L).2) pBuf)} :
    iprop((pLoc d ↦{qp} p) ∗ HoldsAny (F := F) d L pBuf ∗ semVal (tile d L, SemLoc.dma sm) 0 ∗ Owe d L O W)
      ⊢ iprop((iprop((pLoc d ↦{qp} p) ∗ Holds d L pBuf p ∗ semVal (tile d L, SemLoc.dma sm) 0 ∗ Owe d L O W)
          -∗ wp frame (wpE (defs₀ (F := F)) 𝒱₀ (tile d L) none) Set.univ (k ⟨⟩) Q)
        -∗ wp frame (wpE (defs₀ (F := F)) 𝒱₀ (tile d L) none) Set.univ
          (.op (.enqueueDma pV (.here pBuf) (.dma sm) h1 h2 h3) fun _ => .op (.waitDma2 sm pV pBuf h1' h2') k) Q) := by
  iintro ⟨Hp, Hb, Hs, HO⟩ Hk
  have hset : (pV : Memref sig .scVector .hbm S4096 .i32).view.set = Finset.univ := View.set_whole _
  have hread : (pV : Memref sig .scVector .hbm S4096 .i32).view.read (Elt F) p = p := View.read_whole ..
  iapply (wp_copyIn d L (src := pV) (q := qp) (fs := p) (by decide)) $$ [Hp Hb Hs]
  · rw [hset]
    isplitl [Hp]; · iexact Hp
    isplitl [Hb] <;> iassumption
  rw [hset, hread]
  iintro HF
  iapply (wp_wait d L rfl) $$ [HF HO]
  · isplitl [HF] <;> iassumption
  iintro ⟨⟨Hb, Hp⟩, Hs, HO⟩
  iapply Hk
  isplitl [Hp]; · iexact Hp
  isplitl [Hb]; · iexact Hb
  isplitl [Hs] <;> iassumption

/-- The whole run. -/
theorem wp_tile (hp : InRange p) (qp : PosShare TreeShare) :
    iprop(Kit d L q x p qp ∗ OutRows d L fo ∗ Owe d L O W)
      ⊢ wp frame (wpE (defs₀ (F := F)) 𝒱₀ (tile d L) none) Set.univ (tileProg L)
          fun _ => iprop(Kit d L q x p qp ∗ OutRows d L (permuted x p) ∗ Owe d L O W) := by
  obtain ⟨v2, hb⟩ := body_eq (F := F) L xV (Memref.isWhole_whole _) pV (Memref.isWhole_whole _) oV (Memref.isWhole_whole _)
      pBuf (Memref.isWhole_whole _) in0 (Memref.isWhole_whole _) in1 (Memref.isWhole_whole _) in2 (Memref.isWhole_whole _) in3 (Memref.isWhole_whole _) ot0 (Memref.isWhole_whole _) ot1 (Memref.isWhole_whole _) ot2 (Memref.isWhole_whole _) ot3 (Memref.isWhole_whole _)
      cc0_scratch9 cc0_scratch10 cc0_scratch11 cc0_scratch12 cc0_scratch13 cc0_scratch14 cc0_scratch15 cc0_scratch16 cc0_scratch17
  have hbase : base L = 1024 * (L 1).val + 512 * (L 0).val := rfl
  unfold tileProg
  rw [hb]
  simp only [Prog.lift, Prog.bind_op, Prog.bind_ret]
  unfold Kit OutRows
  iintro ⟨⟨⟨Hx0, Hx1, Hx2, Hx3, Hp⟩, ⟨Hb, Hi0, Hi1, Hi2, Hi3, Ho0, Ho1, Ho2, Ho3⟩, ⟨Hs0, Hs1, Hs2, Hs3, Ht0, Ht1, Ht2, Ht3, Hsp⟩⟩, ⟨Hw0, Hw1, Hw2, Hw3⟩, HO⟩
  iapply (wp_startIn d L (q 0) x in0 cc0_scratch9.sem (base L) (off_row (k0_off1_eq L 0) (by simp; omega))) $$ [Hx0 Hi0 Hs0]
  · unfold InIdle; isplitl [Hs0]; · iexact Hs0
    isplitl [Hi0] <;> iassumption
  iintro Hi0
  iapply (wp_startIn d L (q 1) x in1 cc0_scratch10.sem (base L + 4) (off_row (k0_off1_eq L 1) (by simp; omega))) $$ [Hx1 Hi1 Hs1]
  · unfold InIdle; isplitl [Hs1]; · iexact Hs1
    isplitl [Hi1] <;> iassumption
  iintro Hi1
  iapply (wp_startIn d L (q 2) x in2 cc0_scratch11.sem (base L + 8) (off_row (k0_off1_eq L 2) (by simp; omega))) $$ [Hx2 Hi2 Hs2]
  · unfold InIdle; isplitl [Hs2]; · iexact Hs2
    isplitl [Hi2] <;> iassumption
  iintro Hi2
  iapply (wp_startIn d L (q 3) x in3 cc0_scratch12.sem (base L + 12) (off_row (k0_off1_eq L 3) (by simp; omega))) $$ [Hx3 Hi3 Hs3]
  · unfold InIdle; isplitl [Hs3]; · iexact Hs3
    isplitl [Hi3] <;> iassumption
  iintro Hi3
  iapply (wp_list d L p O W qp) $$ [Hp Hb Hsp HO]
  · isplitl [Hp]; · iexact Hp
    isplitl [Hb]; · iexact Hb
    isplitl [Hsp] <;> iassumption
  iintro ⟨Hp, Hb, Hsp, HO⟩
  iapply (Scf.wp_for_bind frame (wpE (defs₀ (F := F)) 𝒱₀ (tile d L) none) Set.univ _ _ _ k0_t1_ok ⟨⟩ (k0_t1_body L xV (Memref.isWhole_whole _) pV (Memref.isWhole_whole _) oV (Memref.isWhole_whole _)
      pBuf (Memref.isWhole_whole _) in0 (Memref.isWhole_whole _) in1 (Memref.isWhole_whole _) in2 (Memref.isWhole_whole _) in3 (Memref.isWhole_whole _) ot0 (Memref.isWhole_whole _) ot1 (Memref.isWhole_whole _) ot2 (Memref.isWhole_whole _) ot3 (Memref.isWhole_whole _)
      cc0_scratch9 cc0_scratch10 cc0_scratch11 cc0_scratch12 cc0_scratch13 cc0_scratch14 cc0_scratch15 cc0_scratch16 cc0_scratch17 v2)
    (fun i _ => Trips d L q x p fo O W i) (wp_trip d L q x p fo O W hp v2)) $$ [Hb Hi0 Hi1 Hi2 Hi3 Ho0 Ho1 Ho2 Ho3 Ht0 Ht1 Ht2 Ht3 Hw0 Hw1 Hw2 Hw3 HO]
  · unfold Trips
    rw [inSt_lt _ _ _ _ _ _ _ (by omega), inSt_lt _ _ _ _ _ _ _ (by omega), inSt_lt _ _ _ _ _ _ _ (by omega), inSt_lt _ _ _ _ _ _ _ (by omega)]
    isplitl [Hb]; · iexact Hb
    isplitl [Hi0 Hi1 Hi2 Hi3]
    · isplitl [Hi0]; · iexact Hi0
      isplitl [Hi1]; · iexact Hi1
      isplitl [Hi2] <;> iassumption
    isplitr [HO]
    · isplitl [Ho0 Ht0 Hw0]
      · iapply outSt_zero; isplitl [Ht0]; · iexact Ht0
        isplitl [Ho0] <;> iassumption
      isplitl [Ho1 Ht1 Hw1]
      · iapply outSt_zero; isplitl [Ht1]; · iexact Ht1
        isplitl [Ho1] <;> iassumption
      isplitl [Ho2 Ht2 Hw2]
      · iapply outSt_zero; isplitl [Ht2]; · iexact Ht2
        isplitl [Ho2] <;> iassumption
      · iapply outSt_zero; isplitl [Ht3]; · iexact Ht3
        isplitl [Ho3] <;> iassumption
    iexact HO
  have htr : Scf.trips k0_t1_loop.lb k0_t1_loop.ub k0_t1_loop.st = 32 := by decide
  rw [htr]
  unfold Trips
  rw [inSt_end, inSt_end, inSt_end, inSt_end]
  iintro %_ ⟨Hb, ⟨Hi0, Hi1, Hi2, Hi3⟩, ⟨Ho0, Ho1, Ho2, Ho3⟩, HO⟩
  iapply (wp_waitOut d L _ fo ot0 cc0_scratch13.sem (base L) 63) $$ [Ho0 HO]
  · isplitl [Ho0] <;> iassumption
  iintro ⟨Ho0, HO⟩
  iapply (wp_waitOut d L _ fo ot1 cc0_scratch14.sem (base L + 2) 63) $$ [Ho1 HO]
  · isplitl [Ho1] <;> iassumption
  iintro ⟨Ho1, HO⟩
  iapply (wp_waitOut d L _ fo ot2 cc0_scratch15.sem (base L + 4) 63) $$ [Ho2 HO]
  · isplitl [Ho2] <;> iassumption
  iintro ⟨Ho2, HO⟩
  iapply (wp_waitOut d L _ fo ot3 cc0_scratch16.sem (base L + 6) 63) $$ [Ho3 HO]
  · isplitl [Ho3] <;> iassumption
  iintro ⟨Ho3, HO⟩
  rw [Prog.pure_eq_ret, wp_ret]
  imodintro
  unfold InIdle OutIdle
  icases Hi0 with ⟨Hs0, Hi0, Hx0⟩
  icases Hi1 with ⟨Hs1, Hi1, Hx1⟩
  icases Hi2 with ⟨Hs2, Hi2, Hx2⟩
  icases Hi3 with ⟨Hs3, Hi3, Hx3⟩
  icases Ho0 with ⟨Ht0, Ho0, Hw0, -⟩
  icases Ho1 with ⟨Ht1, Ho1, Hw1, -⟩
  icases Ho2 with ⟨Ht2, Ho2, Hw2, -⟩
  icases Ho3 with ⟨Ht3, Ho3, Hw3, -⟩
  isplitr [Hw0 Hw1 Hw2 Hw3 HO]
  · isplitl [Hx0 Hx1 Hx2 Hx3 Hp]
    · isplitl [Hx0]; · iexact Hx0
      isplitl [Hx1]; · iexact Hx1
      isplitl [Hx2]; · iexact Hx2
      isplitl [Hx3] <;> iassumption
    isplitl [Hb Hi0 Hi1 Hi2 Hi3 Ho0 Ho1 Ho2 Ho3]
    · isplitl [Hb]; · iapply (Holds.any d L pBuf _); iexact Hb
      isplitl [Hi0]; · iexact Hi0
      isplitl [Hi1]; · iexact Hi1
      isplitl [Hi2]; · iexact Hi2
      isplitl [Hi3]; · iexact Hi3
      isplitl [Ho0]; · iexact Ho0
      isplitl [Ho1]; · iexact Ho1
      isplitl [Ho2] <;> iassumption
    · isplitl [Hs0]; · iexact Hs0
      isplitl [Hs1]; · iexact Hs1
      isplitl [Hs2]; · iexact Hs2
      isplitl [Hs3]; · iexact Hs3
      isplitl [Ht0]; · iexact Ht0
      isplitl [Ht1]; · iexact Ht1
      isplitl [Ht2]; · iexact Ht2
      isplitl [Ht3] <;> iassumption
  isplitr [HO]
  · isplitl [Hw0]; · iexact Hw0
    isplitl [Hw1]; · iexact Hw1
    isplitl [Hw2] <;> iassumption
  iexact HO

end Cert.Proof.Perm

end
-- ==== Proof.Share.lean ====
/-
  How the arrays are dealt among the 32 vector subcores: the two inputs by read shares, the output by rows.
-/
module

public import proofs.«01_k».proof.Proof.Body

@[expose] public section

noncomputable section

namespace Cert.Proof.Perm

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 eq_ix2 ix1 eq_ix1)

variable {F : FTy → Type} [FloatOps F]
variable (d : Dev nD)

/-! ## The inputs, by read shares -/

variable (x : Buf (Elt F) (xLoc d)) (p : Buf (Elt F) (pLoc d))

/-- Both inputs whole, at read share `q`. -/
def Inputs (q : PosShare TreeShare) : sProp (MM F) := iprop((xLoc d ↦{q} x) ∗ (pLoc d ↦{q} p))

instance inputs_storable (q : PosShare TreeShare) : BI.Storable (upEmb : UEmb _ (MM F)) (Inputs d x p q) := by
  unfold Inputs; infer_instance

/-- Dealing the inputs to `n` readers: a token for each, and a rest which is kept. -/
theorem inputs_deal (q : PosShare TreeShare) (n : ℕ) :
    Inputs d x p q = iprop(Inputs d x p (Transfers.shareDrop q n)
      ∗ bigSep Finset.univ fun i : Fin n => Inputs d x p (Transfers.shareTok q n i)) := by
  have apart : Inputs d x p q ⊢ iprop(Inputs d x p (Transfers.shareDrop q n)
      ∗ bigSep Finset.univ fun i : Fin n => Inputs d x p (Transfers.shareTok q n i)) := by
    unfold Inputs
    rw [bigSep_sep']
    iintro ⟨Hx, Hp⟩
    ihave Hx := (Transfers.pointsTo_toks_split q n) $$ Hx
    ihave Hp := (Transfers.pointsTo_toks_split q n) $$ Hp
    icases Hx with ⟨Hx, Hxs⟩
    icases Hp with ⟨Hp, Hps⟩
    isplitl [Hx Hp]; · isplitl [Hx] <;> iassumption
    isplitl [Hxs] <;> iassumption
  have together : iprop(Inputs d x p (Transfers.shareDrop q n)
      ∗ bigSep Finset.univ fun i : Fin n => Inputs d x p (Transfers.shareTok q n i)) ⊢ Inputs d x p q := by
    unfold Inputs
    rw [bigSep_sep']
    iintro ⟨⟨Hx, Hp⟩, Hxs, Hps⟩
    isplitl [Hx Hxs]
    · iapply (Transfers.pointsTo_toks_join q n); isplitl [Hx] <;> iassumption
    · iapply (Transfers.pointsTo_toks_join q n); isplitl [Hp] <;> iassumption
  exact BI.Entails.antisymm apart together

/-! ## The output, by rows -/

/-- A subcore's four families of blocks are its 512 rows. -/
theorem outRows_eq (L : grid0.Coords) (g : Buf (Elt F) (oLoc d)) :
    (OutRows d L g : sProp (MM F)) = (oLoc d ↦[rows (base L) 512]{fullShare} g) := by
  have block (o : ℕ) : (Written d g o 64 : sProp (MM F))
      = (oLoc d ↦[(Finset.range 64).biUnion fun j => rows (o + 8 * j) 2]{fullShare} g) := by
    unfold Written
    exact (pointsTo_biUnion (ℓ := oLoc d) (Finset.range 64) (fun j => rows (o + 8 * j) 2) fun j _ j' _ h =>
      Finset.disjoint_left.mpr fun i hi hi' => by rw [mem_rows] at hi hi'; omega).symm
  have apart {o o' : ℕ} (h : o + 2 ≤ o') (h' : o' + 2 ≤ o + 8) :
      Disjoint ((Finset.range 64).biUnion fun j => rows (o + 8 * j) 2) ((Finset.range 64).biUnion fun j => rows (o' + 8 * j) 2) :=
    Finset.disjoint_left.mpr fun i hi hi' => by
      simp only [Finset.mem_biUnion, mem_rows] at hi hi'
      obtain ⟨j, -, hj⟩ := hi; obtain ⟨j', -, hj'⟩ := hi'; omega
  have whole : rows (base L) 512 = ((Finset.range 64).biUnion fun j => rows (base L + 8 * j) 2)
      ∪ (((Finset.range 64).biUnion fun j => rows (base L + 2 + 8 * j) 2)
      ∪ (((Finset.range 64).biUnion fun j => rows (base L + 4 + 8 * j) 2)
      ∪ ((Finset.range 64).biUnion fun j => rows (base L + 6 + 8 * j) 2))) := by
    ext i
    simp only [Finset.mem_union, Finset.mem_biUnion, mem_rows, Finset.mem_range]
    constructor
    · rintro ⟨h, h'⟩
      obtain ⟨k, hk⟩ : ∃ k, (i 0).val = base L + k := ⟨(i 0).val - base L, by omega⟩
      have : k % 8 < 8 := Nat.mod_lt _ (by omega)
      have : k = 8 * (k / 8) + k % 8 := by omega
      by_cases h2 : k % 8 < 2
      · exact .inl ⟨k / 8, by omega, by omega⟩
      by_cases h4 : k % 8 < 4
      · exact .inr (.inl ⟨k / 8, by omega, by omega⟩)
      by_cases h6 : k % 8 < 6
      · exact .inr (.inr (.inl ⟨k / 8, by omega, by omega⟩))
      · exact .inr (.inr (.inr ⟨k / 8, by omega, by omega⟩))
    · rintro (⟨j, hj, h⟩ | ⟨j, hj, h⟩ | ⟨j, hj, h⟩ | ⟨j, hj, h⟩) <;> omega
  unfold OutRows
  rw [block, block, block, block, whole]
  have d1 := apart (o := base L + 4) (o' := base L + 6) (by omega) (by omega)
  have d2 := Finset.disjoint_union_right.mpr ⟨apart (o := base L + 2) (o' := base L + 4) (by omega) (by omega),
    apart (o := base L + 2) (o' := base L + 6) (by omega) (by omega)⟩
  have d3 := Finset.disjoint_union_right.mpr ⟨apart (o := base L) (o' := base L + 2) (by omega) (by omega),
    Finset.disjoint_union_right.mpr ⟨apart (o := base L) (o' := base L + 4) (by omega) (by omega),
      apart (o := base L) (o' := base L + 6) (by omega) (by omega)⟩⟩
  have join {A B : Finset S16384x4096.Idx} (h : Disjoint A B) : (oLoc d ↦[A ∪ B]{fullShare} g : sProp (MM F))
      = iprop((oLoc d ↦[A]{fullShare} g) ∗ (oLoc d ↦[B]{fullShare} g)) :=
    BI.Entails.antisymm (pointsTo_union (ℓ := oLoc d) h).1 (pointsTo_union (ℓ := oLoc d) h).2
  rw [join d3, join d2, join d1]

/-- The output whole is the 32 subcores' rows. -/
theorem output_deal (g : Buf (Elt F) (oLoc d)) :
    (oLoc d ↦{fullShare} g : sProp (MM F)) = bigSep Finset.univ fun c : Fin 2 => bigSep Finset.univ fun i : Fin 16 =>
      (oLoc d ↦[rows (1024 * i.val + 512 * c.val) 512]{fullShare} g) := by
  have inner (c : Fin 2) : (bigSep Finset.univ fun i : Fin 16 => (oLoc d ↦[rows (1024 * i.val + 512 * c.val) 512]{fullShare} g : sProp (MM F)))
      = (oLoc d ↦[Finset.univ.biUnion fun i : Fin 16 => rows (1024 * i.val + 512 * c.val) 512]{fullShare} g) :=
    (pointsTo_biUnion (ℓ := oLoc d) Finset.univ (fun i : Fin 16 => rows (1024 * i.val + 512 * c.val) 512) fun i _ i' _ h =>
      Finset.disjoint_left.mpr fun y hy hy' => by
        rw [mem_rows] at hy hy'; exact h (Fin.ext (by omega))).symm
  rw [bigSep_congr fun c _ => inner c,
    ← pointsTo_biUnion (ℓ := oLoc d) Finset.univ (fun c : Fin 2 => Finset.univ.biUnion fun i : Fin 16 => rows (1024 * i.val + 512 * c.val) 512)
      fun c _ c' _ h => Finset.disjoint_left.mpr fun y hy hy' => by
        simp only [Finset.mem_biUnion, mem_rows] at hy hy'
        obtain ⟨i, -, hi⟩ := hy; obtain ⟨i', -, hi'⟩ := hy'
        have := c.isLt; have := c'.isLt; rw [mem_rows] at hi hi'; exact h (Fin.ext (by omega))]
  refine congrArg (fun A => (oLoc d ↦[A]{fullShare} g : sProp (MM F))) (Finset.eq_univ_of_forall fun (y : S16384x4096.Idx) => ?_).symm
  have hy : (y 0).val < 16384 := (y 0).isLt
  refine Finset.mem_biUnion.mpr ⟨⟨(y 0).val / 512 % 2, by omega⟩, Finset.mem_univ _,
    Finset.mem_biUnion.mpr ⟨⟨(y 0).val / 1024, by omega⟩, Finset.mem_univ _, mem_rows.mpr ?_⟩⟩
  dsimp only
  omega

end Cert.Proof.Perm

end
-- ==== Proof.Tile.lean ====
/-
  One vector subcore's task as the launch theorem asks for it: from the read shares and the rows it is sent, over its own
  buffers and semaphores as the launch hands them.
-/
module

public import proofs.«01_k».proof.Proof.Share

@[expose] public section

noncomputable section

namespace Cert.Proof.Perm

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 eq_ix2 ix1 eq_ix1)

variable {F : FTy → Type} [FloatOps F]
variable (d : Dev nD) (L : grid0.Coords)

/-! ## The subcore's buffers and semaphores -/

/-- The nine buffers the kernel uses. -/
def bufs : Finset (Ref sig .scVector) :=
  {cc0_scratch0, cc0_scratch1, cc0_scratch2, cc0_scratch3, cc0_scratch4, cc0_scratch5, cc0_scratch6, cc0_scratch7, cc0_scratch8}

/-- The nine semaphores it uses. -/
def sems : Finset (SemLoc sig) :=
  {.dma cc0_scratch9.sem, .dma cc0_scratch10.sem, .dma cc0_scratch11.sem, .dma cc0_scratch12.sem, .dma cc0_scratch13.sem,
    .dma cc0_scratch14.sem, .dma cc0_scratch15.sem, .dma cc0_scratch16.sem, .dma cc0_scratch17.sem}

/-- The buffers as the whole machine names them. -/
def bufsAt : Finset (DevRef τ sig) := bufs.map ⟨(Proc.scVector (cV L) (jV L)).devRef, Proc.devRef_injective _⟩

/-- The semaphores as the whole machine names them. -/
def semsAt : Finset (GSem nD τ sig) := sems.map ⟨fun s => (tile d L, s), fun _ _ h => (Prod.mk.inj h).2⟩

/-- One fact for each of the nine buffers. -/
theorem bufs_each (Φ : Ref sig .scVector → sProp (MM F)) : bigSep bufs Φ
    = iprop(Φ cc0_scratch0 ∗ Φ cc0_scratch1 ∗ Φ cc0_scratch2 ∗ Φ cc0_scratch3 ∗ Φ cc0_scratch4 ∗ Φ cc0_scratch5 ∗ Φ cc0_scratch6
      ∗ Φ cc0_scratch7 ∗ Φ cc0_scratch8) := by
  unfold bufs
  iterate 8 rw [bigSep_insert (by decide)]
  rw [bigSep_singleton]
  rfl

/-- Of the buffers a subcore owns, the kernel's nine, each whole at some contents, and the rest. -/
theorem ownBufs_tile : (ownBufs (tile d L) : sProp (MM F))
    = iprop((HoldsAny (F := F) d L pBuf ∗ HoldsAny (F := F) d L in0 ∗ HoldsAny (F := F) d L in1 ∗ HoldsAny (F := F) d L in2 ∗ HoldsAny (F := F) d L in3
        ∗ HoldsAny (F := F) d L ot0 ∗ HoldsAny (F := F) d L ot1 ∗ HoldsAny (F := F) d L ot2 ∗ HoldsAny (F := F) d L ot3)
      ∗ bigSep (ownRefs (τ := τ) (.scVector (cV L) (jV L)) \ bufsAt L) fun b => iprop(∃ f, ((d, b) : Loc nD τ sig) ↦{fullShare} f)) := by
  have hsub : bufsAt L ⊆ ownRefs (τ := τ) (.scVector (cV L) (jV L)) := by
    intro b hb
    obtain ⟨r, hr, rfl⟩ := Finset.mem_map.mp hb
    refine SparseCore.Cfg.mem_ownRefs_of_owner (p := Proc.scVector (cV L) (jV L)) ?_
    simp only [bufs, Finset.mem_insert, Finset.mem_singleton] at hr
    rcases hr with rfl | rfl | rfl | rfl | rfl | rfl | rfl | rfl | rfl <;> rfl
  unfold SparseCore.Cfg.ownBufs
  refine (bigSep_sdiff_split hsub).trans ?_
  refine congrArg (fun A : sProp (MM F) => BIBase.sep A _) ?_
  unfold bufsAt
  rw [bigSep_map]
  refine (bufs_each _).trans ?_
  unfold HoldsAny
  simp only [View.set_whole]
  rfl

/-- Of the semaphores a subcore owns, the kernel's nine at zero, and the rest. -/
theorem ownSems_tile : (ownSems0 (tile d L) : sProp (MM F))
    = iprop((semVal (tile d L, SemLoc.dma cc0_scratch9.sem) 0 ∗ semVal (tile d L, SemLoc.dma cc0_scratch10.sem) 0
      ∗ semVal (tile d L, SemLoc.dma cc0_scratch11.sem) 0 ∗ semVal (tile d L, SemLoc.dma cc0_scratch12.sem) 0
      ∗ semVal (tile d L, SemLoc.dma cc0_scratch13.sem) 0 ∗ semVal (tile d L, SemLoc.dma cc0_scratch14.sem) 0
      ∗ semVal (tile d L, SemLoc.dma cc0_scratch15.sem) 0 ∗ semVal (tile d L, SemLoc.dma cc0_scratch16.sem) 0
      ∗ semVal (tile d L, SemLoc.dma cc0_scratch17.sem) 0)
      ∗ bigSep (ownCells (tile d L) \ semsAt d L) fun g => semVal g 0) := by
  have hsub : semsAt d L ⊆ ownCells (tile d L) := by
    intro g hg
    obtain ⟨s, hs, rfl⟩ := Finset.mem_map.mp hg
    refine mem_ownCells.mpr ⟨rfl, ?_⟩
    show s.isScoped .scVector = true
    have every : ∀ s ∈ sems, s.isScoped .scVector = true := by unfold sems; decide
    exact every s hs
  unfold SparseCore.Cfg.ownSems0
  refine (bigSep_sdiff_split hsub).trans ?_
  refine congrArg (fun A : sProp (MM F) => BIBase.sep A _) ?_
  unfold semsAt sems
  rw [bigSep_map]
  iterate 8 rw [bigSep_insert (by decide)]
  rw [bigSep_singleton]
  rfl

/-! ## The task -/

variable (x : Buf (Elt F) (xLoc d)) (p : Buf (Elt F) (pLoc d)) (fo : Buf (Elt F) (oLoc d))
variable (O : CellTallies nD τ sig (HIx 1)) (W : Waits sig (HIx 1))

/-- What a subcore is sent: a read share of the inputs, and its rows of the output at `g`. -/
def Sent (q : PosShare TreeShare) (n : ℕ) (g : Buf (Elt F) (oLoc d)) : sProp (MM F) :=
  iprop(Inputs d x p q ∗ (oLoc d ↦[rows n 512]{fullShare} g))

instance sent_storable (q : PosShare TreeShare) (n : ℕ) (g : Buf (Elt F) (oLoc d)) :
    BI.Storable (upEmb : UEmb _ (MM F)) (Sent d x p q n g) := by
  unfold Sent; infer_instance

/-- Four shares of `x` and what is kept beside them. -/
theorem four_shares (q : PosShare TreeShare) : (xLoc d ↦{q} x : sProp (MM F))
    = iprop((xLoc d ↦{Transfers.shareDrop q 4} x) ∗ (xLoc d ↦{Transfers.shareTok q 4 0} x) ∗ (xLoc d ↦{Transfers.shareTok q 4 1} x)
      ∗ (xLoc d ↦{Transfers.shareTok q 4 2} x) ∗ (xLoc d ↦{Transfers.shareTok q 4 3} x)) := by
  refine (BI.Entails.antisymm (Transfers.pointsTo_toks (ℓ := xLoc d) q 4).1 (Transfers.pointsTo_toks q 4).2).trans ?_
  congr 1
  rw [show (Finset.univ : Finset (Fin 4)) = {0, 1, 2, 3} from rfl]
  iterate 3 rw [bigSep_insert (by decide)]
  rw [bigSep_singleton]
  rfl

/-- The task: from what it is sent, its storage and what it owes, to its rows of the output at their final values. -/
theorem tile_task (hp : InRange p) (q : PosShare TreeShare) (hO : ∀ g, O g none = 0) :
    iprop(levAts (K (F := F)).L (K (F := F)).lev ∗ emp ∗ Sent d x p q (base L) fo
        ∗ scopedBufs (tile d L) ∗ scopedSems0 (tile d L) ∗ owes (tile d L) O W)
      ⊢ wp frame (wpE (defs₀ (F := F)) 𝒱₀ (tile d L) none) Set.univ (tileProg L)
          fun _ => iprop(Sent d x p q (base L) (permuted x p) ∗ scopedBufs (tile d L) ∗ scopedSems0 (tile d L)
            ∗ ∃ W', ⌜∀ p ∈ W', p ∈ W ∨ p.2 = none ∨ p.2 = some (0 : Fin 1)⌝ ∗ owes (tile d L) O W') := by
  rw [(K (F := F)).scopedBufs_V facts d (cV L) (jV L), SparseCore.Cfg.scopedSems0_V (Val := Elt F) d (cV L) (jV L), ownSems_tile, ownBufs_tile]
  unfold Sent Inputs
  rw [four_shares d x q, ← outRows_eq, ← outRows_eq]
  iintro ⟨#Hlv, -, ⟨⟨⟨Hx, Hx0, Hx1, Hx2, Hx3⟩, Hp⟩, Hout⟩, ⟨Hb, Hbs⟩, ⟨Hs, Hss⟩, HO⟩
  ihave #Hmay := ((K (F := F)).mayWaits_none (thr := tile d L) hO) $$ Hlv
  ihave Hw := (wp_tile d L (Transfers.shareTok q 4) x p fo O W hp q) $$ [Hx0 Hx1 Hx2 Hx3 Hp Hout Hb Hs HO]
  · unfold Kit Owe
    isplitl [Hx0 Hx1 Hx2 Hx3 Hp Hb Hs]
    · isplitl [Hx0 Hx1 Hx2 Hx3 Hp]
      · isplitl [Hx0]; · iexact Hx0
        isplitl [Hx1]; · iexact Hx1
        isplitl [Hx2]; · iexact Hx2
        isplitl [Hx3] <;> iassumption
      isplitl [Hb] <;> iassumption
    isplitl [Hout]; · iexact Hout
    isplitr; · iexact Hmay
    iexists W
    isplitr; · ipureintro; exact fun _ h => .inl h
    iexact HO
  iapply (wp_wand frame _ _) $$ Hw
  iintro %_ Hd
  unfold Kit Owe
  icases Hd with ⟨⟨⟨Hx0, Hx1, Hx2, Hx3, Hp⟩, Hb, Hs⟩, Hout, -, %W', %hW', HO⟩
  isplitl [Hx Hx0 Hx1 Hx2 Hx3 Hp Hout]
  · isplitr [Hout]
    · isplitr [Hp]
      · isplitl [Hx]; · iexact Hx
        isplitl [Hx0]; · iexact Hx0
        isplitl [Hx1]; · iexact Hx1
        isplitl [Hx2] <;> iassumption
      iexact Hp
    iexact Hout
  isplitl [Hb Hbs]; · isplitl [Hb] <;> iassumption
  isplitl [Hs Hss]; · isplitl [Hs] <;> iassumption
  iexists W'
  isplitr
  · ipureintro; exact fun w hw => (hW' w hw).imp_right .inl
  iexact HO

end Cert.Proof.Perm

end
-- ==== Proof.Launch.lean ====
/-
  The whole program's run: the TensorCore hands the two SparseCores the arrays, they hand them to their vector subcores,
  and everything comes back with the output at the permuted rows and the inputs as they were.
-/
module

public import proofs.«01_k».proof.Proof.Tile

@[expose] public section

noncomputable section

namespace Cert.Proof.Perm

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-! ## What travels with the launch signals -/

/-- The output's final contents on device `d`. -/
abbrev result (d : Dev nD) : Buf (Elt F) (oLoc d) := permuted (m (xLoc d)) (m (pLoc d))

/-- Both inputs at their launch contents, at read share `q`. -/
abbrev ins (d : Dev nD) (q : PosShare TreeShare) : sProp (MM F) := Inputs d (m (xLoc d)) (m (pLoc d)) q

/-- SparseCore `c`'s read share, and vector subcore `i`'s of it. -/
abbrev coreShare (c : ℕ) : PosShare TreeShare := Transfers.shareTokN fullShare c
abbrev tileShare (c i : ℕ) : PosShare TreeShare := Transfers.shareTokN (coreShare c) i

/-- SparseCore `c`'s part: a read share of the inputs and its subcores' rows of the output at `g`. -/
def Core (d : Dev nD) (c : ℕ) (g : Buf (Elt F) (oLoc d)) : sProp (MM F) :=
  iprop(ins m d (coreShare c) ∗ bigSep Finset.univ fun i : Fin 16 => (oLoc d ↦[rows (1024 * i.val + 512 * c) 512]{fullShare} g))

/-- Vector subcore `i`'s part of it. -/
def Task (d : Dev nD) (c i : ℕ) (g : Buf (Elt F) (oLoc d)) : sProp (MM F) :=
  Sent d (m (xLoc d)) (m (pLoc d)) (tileShare c i) (1024 * i + 512 * c) g

instance core_storable (d : Dev nD) (c : ℕ) (g : Buf (Elt F) (oLoc d)) : BI.Storable (upEmb : UEmb _ (MM F)) (Core m d c g) := by
  unfold Core; infer_instance
instance task_storable (d : Dev nD) (c i : ℕ) (g : Buf (Elt F) (oLoc d)) : BI.Storable (upEmb : UEmb _ (MM F)) (Task m d c i g) := by
  unfold Task; infer_instance

/-- Out go the parts with the output at its launch contents, back come the parts with the output permuted. -/
def P : (K (F := F)).Pay (nD := nD) (Val := Elt F) (Name := ℕ) (U := UU) where
  st := fun _ d c => Core m d c.val (m (oLoc d))
  dn := fun _ d c => Core m d c.val (result m d)
  go := fun _ d c i => Task m d c.val i.val (m (oLoc d))
  td := fun _ d c i => Task m d c.val i.val (result m d)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The launch theorem's obligations -/

/-- The grid point of core `c` and subcore `s`. -/
def at2 (c : Fin (grid0.bound 0)) (s : Fin (grid0.bound 1)) : grid0.Coords :=
  fun | 0 => c | 1 => s | ⟨_ + 2, h⟩ => absurd h (Nat.not_lt.2 (Nat.le_add_left _ _))

/-- A vector subcore's entry in the body table is the kernel at its grid point. -/
theorem entry (c : Fin τ.nSC) (s : Fin τ.nSub) :
    defs₀ (F := F) (.scVector c s) 0 () = SparseCore.onTile hcore0 hsub0 (fun c s => tileProg (at2 c s)) ⟨⟩ c s := rfl

/-- Each vector subcore does its task. -/
theorem tiles (hp : ∀ d, InRange (m (pLoc d))) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [entry]; simp only [SparseCore.onTile, hc, and_self, ↓reduceDIte]
  exact tile_task d (at2 ⟨_, hc.1⟩ ⟨_, hc.2⟩) (m (xLoc d)) (m (pLoc d)) (m (oLoc d)) O W (hp d) (tileShare c.val i.val) hO

/-- Three resources, grouped either way. -/
theorem regroup (A B C : sProp (MM F)) : iprop((A ∗ B) ∗ C) = iprop(A ∗ B ∗ C) := by
  have right : iprop((A ∗ B) ∗ C) ⊢ iprop(A ∗ B ∗ C) := Laws.sep_assoc.1
  have left : iprop(A ∗ B ∗ C) ⊢ iprop((A ∗ B) ∗ C) := Laws.sep_assoc.2
  exact BI.Entails.antisymm right left

/-- A SparseCore's part is a rest of the inputs and its subcores' parts. -/
theorem core_eq (d : Dev nD) (c : ℕ) (g : Buf (Elt F) (oLoc d)) :
    Core m d c g = iprop(ins m d (Transfers.shareDrop (coreShare c) 16) ∗ bigSep Finset.univ fun i : Fin 16 => Task m d c i.val g) := by
  unfold Core Task Sent ins
  rw [inputs_deal d _ _ (coreShare c) 16, bigSep_sep']
  exact regroup _ _ _

/-- So a SparseCore's part deals to its subcores, and is gathered from them. -/
theorem cores : (K (F := F)).VecSplit' (P m) 0 := by
  intro d c
  show Core m d c.val (m (oLoc d)) ⊢ |={Set.univ}=> iprop((bigSep Finset.univ fun i : Fin 16 => Task m d c.val i.val (m (oLoc d)))
      ∗ ((bigSep Finset.univ fun i : Fin 16 => Task m d c.val i.val (result m d)) -∗ Core m d c.val (result m d)))
  rw [core_eq, core_eq]
  iintro ⟨Hr, Ht⟩
  imodintro
  isplitl [Ht]; · iexact Ht
  iintro Ht
  isplitl [Hr] <;> iassumption

/-! ## The launch element: the handshakes' rounds -/

def u₀ : UU := (initOf (K (F := F)).hsCells (K (F := F)).hsToks, 1)

theorem launch : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have nothing {I : Type} (s : Finset I) : (bigSep s fun _ => iprop(emp)) = (iprop(emp) : sProp (MM F)) := bigSep_emp_const s
  unfold u₀ P
  dsimp only
  rw [bigSep_congr fun _ _ => nothing _, nothing, nothing]
  iintro Hu
  ihave Hu := (ownU_pair _ _) $$ Hu
  icases Hu with ⟨Hu, -⟩
  imodintro
  isplitl [Hu]; · iexact Hu
  isplitr <;> iempintro

/-! ## The TensorCore -/

/-- The TensorCore's arrays are the three. -/
theorem arrays (d : Dev nD) (W : (b : Ref sig .tc) → Buf (Elt F) ((d.tc : Thread nD τ).loc b)) :
    (unscopedBufs d W : sProp (MM F)) = iprop((xLoc d ↦{fullShare} W main_arg0) ∗ (pLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The three arrays, the output at `g`, are a rest of the inputs and the two SparseCores' parts. -/
theorem device_eq (d : Dev nD) (g : Buf (Elt F) (oLoc d)) :
    iprop(ins m d fullShare ∗ oLoc d ↦{fullShare} g)
      = iprop(ins m d (Transfers.shareDrop fullShare 2) ∗ bigSep Finset.univ fun c : Fin 2 => Core m d c.val g) := by
  unfold Core ins
  rw [inputs_deal d _ _ fullShare 2, output_deal, bigSep_sep']
  exact regroup _ _ _

/-- What the TensorCore ends with: the inputs unchanged, the output permuted. -/
abbrev FIN (d : Dev nD) : sProp (MM F) := iprop(ins m d fullShare ∗ oLoc d ↦{fullShare} result m d)

/-- `main` on device `d`'s TensorCore: the one call. -/
theorem tensorCore (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays]
  simp only [main, wp_bind, wp_pure]
  iintro ⟨#Hctx, Hst, ⟨Hb, ⟨Hx, Hp, Ho⟩, Hts, -⟩, -⟩
  ihave Hall := (Entails.of_eq (device_eq m d (m (oLoc d)))) $$ [Hx Hp Ho]
  · unfold ins Inputs
    isplitr [Ho]
    · isplitl [Hx] <;> iassumption
    iexact Ho
  icases Hall with ⟨Hr, Hcs⟩
  iapply ((K (F := F)).wp_run (D (F := F)) 𝒱 (EH := EH) (P := P m) κ d 0) $$ [Hst Hcs Hr Hb Hts]
  isplitr; · iexact Hctx
  isplitl [Hst]; · iexact Hst
  isplitl [Hcs]; · iexact Hcs
  iintro ⟨Hst, Hcs⟩
  ihave Hall := (Entails.of_eq (device_eq m d (result m d)).symm) $$ [Hr Hcs]
  · isplitl [Hr]; · iexact Hr
    iexact Hcs
  imodintro
  isplitl [Hst]; · iexact Hst
  isplitl [Hall]; · iexact Hall
  isplitl [Hb] <;> iassumption

/-- What a final memory on device `d` looks like. -/
def Final (d : Dev nD) (mem : (ℓ : Loc nD τ sig) → Buf (Elt F) ℓ) : Prop :=
  mem (xLoc d) = m (xLoc d) ∧ mem (pLoc d) = m (pLoc d) ∧ mem (oLoc d) = result m d

/-- Arrays held whole are what the memory holds. -/
theorem final (d : Dev nD) (s' : Phys nD τ sig (Elt F)) : iprop(FIN m d ∗ SI s') ⊢ (⌜Final m d s'.mem.mem⌝ : sProp (MM F)) := by
  have reads (ℓ : Loc nD τ sig) (f : Buf (Elt F) ℓ) (h : ∀ i ∈ (Finset.univ : Finset (Idx ℓ)), s'.mem.mem ℓ i = f i) :
      s'.mem.mem ℓ = f := funext fun i => h i (Finset.mem_univ i)
  unfold FIN ins Inputs
  iintro ⟨⟨⟨Hx, Hp⟩, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%hp, HSI, -⟩
  ihave H := (SI_pointsTo_agree (st := s') (ℓ := oLoc d) (I := Finset.univ) (q := fullShare) (f := result m d)) $$ [HSI Ho]
  · isplitl [HSI] <;> iassumption
  icases H with %ho
  ipureintro; exact ⟨reads _ _ hx, reads _ _ hp, reads _ _ ho⟩

/-! ## The run -/

/-- From a list of columns in range, every run ends with the inputs unchanged, the output at the permuted rows and every
    semaphore at zero. -/
theorem run_kernel [∀ e, Nonempty (Elt F e)] (hp : ∀ d, InRange (m (pLoc d))) :
    θ_run (defs (F := F)) (threads (F := F)) ⟨m, fun _ => 0, ρ⟩ (fun r => (∀ d : Dev nD, Final m d r.2.mem) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tiles m hp)
    (fun q _ => match q with | 0 => SparseCore.Cfg.VecSplit.of_plain (cores m))
    m ρ main (fun _ => iprop(emp)) (FIN m) (u₀ (F := F)) (sep_elim_left.trans (launch m)) (tensorCore m ρ)
    (fun d s' => Final m d s'.mem.mem) (final m) _ (fun _ h hz => ⟨h, hz⟩)

end Cert.Proof.Perm

end
-- ==== Proof.Value.lean ====
/-
  The values: what the precondition says of the permutation's words, and what the reference computes from words in range.
  The reference is `jnp.take(x, perm, axis=1)`. It wraps a negative word, marks the words outside `[0, 4095]`, gathers one
  column of `x` per word, and replaces the columns of marked words by NaN. For words in range nothing wraps and nothing is
  marked, so what is left is the columns of `x` in the order of the words: the array the kernel ends with.
-/
module

public import proofs.«01_k».proof.Proof.Base
public import proofs.«01_k».proof.Proof.Gen.ReferenceIdeal.Run
public import proofs.«01_k».proof.Proof.Gen.Pre_in_range
public import Idealize.ShloMosaic.Lib.ReduceAll
public import Idealize.ShloMosaic.Lib.StableHlo.Predicate

@[expose] public section

noncomputable section

namespace Cert.Proof.Perm

open Idealize.ShloMosaic
open Idealize.ShloMosaic.ValueIdx (ix2 eq_ix2 ix1 eq_ix1)

variable {F : FTy → Type} [FloatOps F]

/-! ## The precondition -/

/-- The precondition `(0 ≤ perm) & (perm < 4096)`, all ones, says that every word of the permutation is below 4096 as a natural
    number. -/
theorem inRange_of_pre (x : Cert.Pre_in_range.S16384x4096.Idx → Elt F .f32) (p : Cert.Pre_in_range.S4096.Idx → Elt F .i32)
    (h : Cert.Pre_in_range.fn (F := F) x p = fun _ => 1#1) : InRange (F := F) p := by
  intro j
  haveI : Subsingleton Cert.Pre_in_range.S_.Idx := ⟨fun a b => funext fun i => i.elim0⟩
  have e := Host.reduce_andi_all _ _ _ _ _ (congrFun h (fun i => i.elim0)) j
  obtain ⟨e0, e1⟩ := IntOp.andi_eq_one.1 e
  have h0 : (0#32 : BitVec 32).toInt ≤ BitVec.toInt (p j) := IntOp.cmpi_sge.1 e0
  have h1 : BitVec.toInt (p j) < (4096#32 : BitVec 32).toInt := IntOp.cmpi_slt.1 e1
  rw [show (0#32 : BitVec 32).toInt = 0 by decide, BitVec.toInt_eq_toNat_cond] at h0
  rw [show (4096#32 : BitVec 32).toInt = 4096 by decide, BitVec.toInt_eq_toNat_cond] at h1
  omega

/-! ## The reference -/

open Cert.ReferenceIdeal Cert.ReferenceIdeal.Gen

/-- The words the reference gathers at, as a column: each word of the permutation, 4096 added to a negative one. -/
def starts (p : IVec S4096 32) : IVec S4096x1 32 :=
  broadcastInDim S4096x1 ![0] bcast_S4096_S4096x1_0
    (select (cmpi .slt p (broadcastInDim S4096 ![] bcast_S_S4096 (constantI S_ 32 0#32)))
      (addi p (broadcastInDim S4096 ![] bcast_S_S4096 (constantI S_ 32 4096#32))) p)

/-- Which columns of the result the reference keeps: those whose word lies in `[0, 4095]`. -/
def kept (p : IVec S4096 32) : IVec S4096 1 :=
  Host.reduce IntOp.andi
    (andi (cmpi .sge (starts p) (broadcastInDim S4096x1 ![] bcast_S_S4096x1 (constantI S_ 32 0#32)))
      (cmpi .sle (starts p) (broadcastInDim S4096x1 ![0, 1] bcast_S1x1_S4096x1_0_1
        (broadcastInDim S1x1 ![1] bcast_S1_S1x1_1 (constantI S1 32 4095#32)))))
    (constantI S_ 1 1#1) reducesTo_S4096x1_S4096_d1 h_S_

/-- The reference's result as its operations compose it. -/
def taken (x : FVec F S16384x4096 .f32) (p : IVec S4096 32) : FVec F S16384x4096 .f32 :=
  select (broadcastInDim S16384x4096 ![1] bcast_S4096_S16384x4096_1 (kept p))
    (Host.gather gather_S16384x4096_S4096x1_S16384x4096_0_1_n_n_1_1_163841 x (starts p))
    (broadcastInDim S16384x4096 ![] bcast_S_S16384x4096 (constant S_ .f32 0x7FC00000#32))

/-- A word below 4096 is not negative, so the wrap leaves it. -/
theorem starts_apply (p : IVec S4096 32) (hp : ∀ j, (p j).toNat < 4096) (k : Fin 4096) (z : Fin 1) :
    starts p (ix2 k z) = p (ix1 k) := by
  have hj : ∀ j : S4096.Idx, (select (cmpi .slt p (broadcastInDim S4096 ![] bcast_S_S4096 (constantI S_ 32 0#32)))
      (addi p (broadcastInDim S4096 ![] bcast_S_S4096 (constantI S_ 32 4096#32))) p) j = p j := by
    intro j
    refine if_neg fun e => ?_
    have e' : (p j).toInt < (0#32 : BitVec 32).toInt := IntOp.cmpi_slt.1 e
    have := hp j
    rw [StableHlo.Predicate.toInt_eq_toNat_of_lt (by omega)] at e'
    have h0 : (0#32 : BitVec 32).toInt = 0 := by decide
    omega
  refine (hj _).trans (congrArg p ?_)
  funext a
  obtain rfl : a = 0 := Subsingleton.elim _ _
  rfl

/-- Every column is kept. -/
theorem kept_apply (p : IVec S4096 32) (hp : ∀ j, (p j).toNat < 4096) (j : S4096.Idx) : kept p j = 1#1 := by
  refine Host.reduce_andi_one _ _ _ _ _ rfl fun i => ?_
  have hs : starts p i = p (ix1 (i 0)) :=
    (congrArg (starts p) (eq_ix2 i)).trans (starts_apply p hp (i 0) (i 1))
  have hlt := hp (ix1 (i 0))
  have hi := StableHlo.Predicate.toInt_eq_toNat_of_lt (a := p (ix1 (i 0))) (by omega)
  refine IntOp.andi_eq_one.2 ⟨IntOp.cmpi_sge.2 ?_, IntOp.cmpi_sle.2 ?_⟩
  · show (0#32 : BitVec 32).toInt ≤ (starts p i).toInt
    have h0 : (0#32 : BitVec 32).toInt = 0 := by decide
    rw [hs, hi, h0]; omega
  · show (starts p i).toInt ≤ (4095#32 : BitVec 32).toInt
    have h0 : (4095#32 : BitVec 32).toInt = 4095 := by decide
    rw [hs, hi, h0]; omega

/-- The gather reads, at `(r, k)`, row `r` of `x` at the column that the start word of `k` names, when that word is below
    4096: the gather's clamp of a start word leaves such a word. -/
theorem gather_apply {α : Type} (x : S16384x4096.Idx → α) (idx : IVec S4096x1 32) (r : Fin 16384) (k b : Fin 4096)
    (hb : (idx (ix2 k (0 : Fin 1))).toNat = b.val) :
    Host.gather gather_S16384x4096_S4096x1_S16384x4096_0_1_n_n_1_1_163841 x idx (ix2 r k) = x (ix2 r b) := by
  unfold Host.gather
  generalize hd : gather_S16384x4096_S4096x1_S16384x4096_0_1_n_n_1_1_163841 = d
  have hoff : d.offsetDims = [0] := by rw [← hd]; rfl
  have hcoll : d.collapsedSliceDims = [1] := by rw [← hd]; rfl
  have hob : d.operandBatchingDims = [] := by rw [← hd]; rfl
  have hsim : d.startIndexMap = [1] := by rw [← hd]; rfl
  have hivd : d.indexVectorDim = 1 := by rw [← hd]; rfl
  have hbN : ∀ a, a ∉ d.operandBatchingDims := fun a => by rw [hob]; exact List.not_mem_nil
  -- the result's batch axes are axis 1 alone, its offset axes axis 0 alone
  have hk1 : ∀ q ∈ d.batchDims, q = (1 : Fin 2) := fun q hq => by
    have hq' : q ∉ d.offsetDims := of_decide_eq_true (List.mem_filter.1 hq).2
    rw [hoff] at hq'
    have h0 : q.val ≠ 0 := fun e => hq' (List.mem_singleton.2 (Fin.ext e))
    have h2 : q.val < 2 := q.isLt
    exact Fin.ext (by show q.val = 1; omega)
  have hk0 : ∀ q ∈ d.offsetDims, q = (0 : Fin 2) := fun q hq => by rw [hoff] at hq; exact List.mem_singleton.1 hq
  have e0 : ∀ X : Fin 2, X = 0 → (ix2 r k X).val = r.val := fun X h => by subst h; rfl
  have e1 : ∀ X : Fin 2, X = 1 → (ix2 r k X).val = k.val := fun X h => by subst h; rfl
  have not_one : (0 : Fin 2) ∉ [(1 : Fin 2)] := by decide
  refine congrArg x (funext fun a => Fin.ext ?_)
  match a with
  | ⟨0, _⟩ =>
    have hk : (0 : Fin 2) ∈ d.sKept := (d.mem_sKept 0).2 ⟨fun h => not_one (hcoll ▸ h), hbN 0⟩
    have hm : (0 : Fin 2) ∉ d.startIndexMap := fun h => not_one (hsim ▸ h)
    show d.start (ix2 r k) idx 0 + d.batchCoord (ix2 r k) 0 + d.offCoord (ix2 r k) 0 = r.val
    rw [d.batchCoord_eq_zero _ _ (hbN 0), Nat.add_zero]
    unfold GatherDims.start GatherDims.offCoord
    rw [dif_neg hm, dif_pos hk, Nat.zero_add]
    exact e0 _ (hk0 _ (List.getElem_mem _))
  | ⟨1, _⟩ =>
    have hk : (1 : Fin 2) ∉ d.sKept := fun h => ((d.mem_sKept 1).1 h).1 (by rw [hcoll]; exact List.mem_singleton.2 rfl)
    have hm : (1 : Fin 2) ∈ d.startIndexMap := by rw [hsim]; exact List.mem_singleton.2 rfl
    have hsl : d.sliceSizes 1 = 1 := d.slice_collapsed 1 (by rw [hcoll]; exact List.mem_singleton.2 rfl)
    show d.start (ix2 r k) idx 1 + d.batchCoord (ix2 r k) 1 + d.offCoord (ix2 r k) 1 = b.val
    rw [d.batchCoord_eq_zero _ _ (hbN 1), d.offCoord_eq_zero _ _ hk]
    simp only [Nat.add_zero]
    unfold GatherDims.start
    rw [dif_pos hm]
    have hsi : d.siIdx (ix2 r k) ⟨d.startIndexMap.idxOf 1, List.idxOf_lt_length_iff.2 hm⟩ = ix2 k (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact e1 _ (hk1 _ (List.getElem_mem _))
      | ⟨1, _⟩ =>
        unfold GatherDims.siIdx
        rw [dif_pos (by rw [hivd])]
        show List.idxOf (1 : Fin 2) d.startIndexMap = 0
        rw [hsim]; simp
    have hbl := b.isLt
    rw [hsi, hsl, StableHlo.Predicate.toInt_eq_toNat_of_lt (by omega), hb]
    show min ((b.val : Int)).toNat (4096 - 1) = b.val
    omega

/-- For words in range the reference's result is the columns of `x` in the order of the words. -/
theorem taken_eq (x : FVec F S16384x4096 .f32) (p : IVec S4096 32) (hp : ∀ j, (p j).toNat < 4096) :
    taken (F := F) x p = permuted (F := F) x p := by
  funext y
  have hg : Host.gather gather_S16384x4096_S4096x1_S16384x4096_0_1_n_n_1_1_163841 x (starts p) y
      = permuted (F := F) x p y :=
    (congrArg _ (eq_ix2 y)).trans (gather_apply x (starts p) (y 0) (y 1) (col (p (ix1 (y 1))))
      ((congrArg BitVec.toNat (starts_apply p hp (y 1) 0)).trans (col_val (hp _)).symm))
  exact (if_pos (kept_apply p hp _)).trans hg

end Cert.Proof.Perm

end
-- ==== Proof.lean ====
/-
  The proof of `Cert.Claim` (Defs.lean): the claims about the permutation kernel, put together.
  The kernel's run is `Perm.run_kernel` (Proof/Launch.lean): from words in range, every execution ends with the inputs as they
  were, the output at `Perm.permuted` of the inputs, and every semaphore counter at zero. What the precondition says of the words,
  and that the reference's result is `Perm.permuted` too, is Proof/Value.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The kernel as printed, at machine floats: from words in range every execution ends, both inputs unchanged and every counter at
    zero. Its program is the idealized one's, operation for operation, so the one run serves both. -/
theorem frame_kernel : Cert.quiescent_Kernel := fun m ρ h =>
  (θ_run Cert.KernelIdeal.defs _ _).mono (fun _ r => ⟨fun c => ⟨(r.1 c).1, (r.1 c).2.1⟩, r.2⟩)
    (Perm.run_kernel (F := Bits) m ρ fun d => Perm.inRange_of_pre _ _ (h d))

/-- The same of the idealized kernel. -/
theorem frame_kernelIdeal : Cert.quiescent_KernelIdeal := fun m ρ h =>
  (θ_run Cert.KernelIdeal.defs _ _).mono (fun _ r => ⟨fun c => ⟨(r.1 c).1, (r.1 c).2.1⟩, r.2⟩)
    (Perm.run_kernel (F := Ideal) m ρ fun d => Perm.inRange_of_pre _ _ (h d))

/-- The reference ends from any inputs, leaving them unchanged; it declares no semaphore, so every counter is zero. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the same inputs, words in range, the idealized kernel and the reference end with the same output: column `j` of it
    is column `perm[j]` of `x`. -/
theorem algebraic : Cert.algebraic_KernelIdeal_ReferenceIdeal := by
  intro m ρ m' ρ' h hagree
  have hp : ∀ d, Perm.InRange (F := Ideal) (m (Perm.pLoc d)) := fun d => Perm.inRange_of_pre _ _ (h d)
  refine ⟨fun c => Perm.result m c, ?_, ?_⟩
  · exact (θ_run Cert.KernelIdeal.defs _ _).mono (fun _ r c => ⟨(r.1 c).2.2, (r.1 c).1, (r.1 c).2.1⟩)
      (Perm.run_kernel (F := Ideal) m ρ hp)
  · refine (θ_run Cert.ReferenceIdeal.defs _ _).mono (fun _ r c => ⟨(r c).1.trans ?_, (r c).2⟩)
      (Cert.ReferenceIdeal.Value.run (F := Ideal) m' ρ')
    have hx := (hagree c).1
    have hq := (hagree c).2
    rw [hx, hq]
    exact Perm.taken_eq (F := Ideal) (m (Perm.xLoc c)) (m (Perm.pLoc c)) (hp c)

/-- All the claims together, after the facts the programs state. -/
theorem claim : Cert.Claim :=
  ⟨Cert.Kernel.Gen.facts, Cert.KernelIdeal.Gen.facts, Cert.ReferenceIdeal.Gen.facts, Cert.Pre_in_range.Gen.facts,
    frame_kernel, frame_kernelIdeal, frame_referenceIdeal, fun m ρ _ => frame_referenceIdeal m ρ trivial, trivial, algebraic⟩

end Cert.Proof

end
